-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7))
      ∧ r.2.sem = fun _ => 0)

def preserves_Kernel_KernelIdeal : Prop :=
  IdealRules.named_const.Statement Cert.KernelIdeal.κ "mask" .f32 0xF149F2CA#32 ⊥

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) →
    ∃ (v0 : (c : Dev Cert.Kernel2Ideal.nD) → Buf (Elt Ideal) ((c.tc : Thread Cert.Kernel2Ideal.nD Cert.Kernel2Ideal.τ).loc Cert.Kernel2Ideal.main_v10)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v10) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)) →
    ∃ (v0 : (c : Dev Cert.Kernel3Ideal.nD) → Buf (Elt Ideal) ((c.tc : Thread Cert.Kernel3Ideal.nD Cert.Kernel3Ideal.τ).loc Cert.Kernel3Ideal.main_v72_0)) (v1 : (c : Dev Cert.Kernel3Ideal.nD) → Buf (Elt Ideal) ((c.tc : Thread Cert.Kernel3Ideal.nD Cert.Kernel3Ideal.τ).loc Cert.Kernel3Ideal.main_v81)) (v2 : (c : Dev Cert.Kernel3Ideal.nD) → Buf (Elt Ideal) ((c.tc : Thread Cert.Kernel3Ideal.nD Cert.Kernel3Ideal.τ).loc Cert.Kernel3Ideal.main_v82)) (v3 : (c : Dev Cert.Kernel3Ideal.nD) → Buf (Elt Ideal) ((c.tc : Thread Cert.Kernel3Ideal.nD Cert.Kernel3Ideal.τ).loc Cert.Kernel3Ideal.main_v83)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v72_0) = v0 c
          ∧ r.2.mem ((c.tc : Thread Cert.Kernel3Ideal.nD Cert.Kernel3Ideal.τ).loc Cert.Kernel3Ideal.main_v81) = v1 c
          ∧ r.2.mem ((c.tc : Thread Cert.Kernel3Ideal.nD Cert.Kernel3Ideal.τ).loc Cert.Kernel3Ideal.main_v82) = v2 c
          ∧ r.2.mem ((c.tc : Thread Cert.Kernel3Ideal.nD Cert.Kernel3Ideal.τ).loc Cert.Kernel3Ideal.main_v83) = v3 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v74) = v2 c
          ∧ r.2.mem ((c.tc : Thread Cert.Reference3Ideal.nD Cert.Reference3Ideal.τ).loc Cert.Reference3Ideal.main_v76) = v3 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v74_0)) (v1 : (c : Dev Cert.Kernel4Ideal.nD) → Buf (Elt Ideal) ((c.tc : Thread Cert.Kernel4Ideal.nD Cert.Kernel4Ideal.τ).loc Cert.Kernel4Ideal.main_v80)) (v2 : (c : Dev Cert.Kernel4Ideal.nD) → Buf (Elt Ideal) ((c.tc : Thread Cert.Kernel4Ideal.nD Cert.Kernel4Ideal.τ).loc Cert.Kernel4Ideal.main_v81)) (v3 : (c : Dev Cert.Kernel4Ideal.nD) → Buf (Elt Ideal) ((c.tc : Thread Cert.Kernel4Ideal.nD Cert.Kernel4Ideal.τ).loc Cert.Kernel4Ideal.main_v82)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v74_0) = v0 c
          ∧ r.2.mem ((c.tc : Thread Cert.Kernel4Ideal.nD Cert.Kernel4Ideal.τ).loc Cert.Kernel4Ideal.main_v80) = v1 c
          ∧ r.2.mem ((c.tc : Thread Cert.Kernel4Ideal.nD Cert.Kernel4Ideal.τ).loc Cert.Kernel4Ideal.main_v81) = v2 c
          ∧ r.2.mem ((c.tc : Thread Cert.Kernel4Ideal.nD Cert.Kernel4Ideal.τ).loc Cert.Kernel4Ideal.main_v82) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v81) = v0 c
          ∧ r.2.mem ((c.tc : Thread Cert.Reference4Ideal.nD Cert.Reference4Ideal.τ).loc Cert.Reference4Ideal.main_v74) = v1 c
          ∧ r.2.mem ((c.tc : Thread Cert.Reference4Ideal.nD Cert.Reference4Ideal.τ).loc Cert.Reference4Ideal.main_v75) = v2 c
          ∧ r.2.mem ((c.tc : Thread Cert.Reference4Ideal.nD Cert.Reference4Ideal.τ).loc Cert.Reference4Ideal.main_v83) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) →
    ∃ (v0 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v12) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v40) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ preserves_Kernel_KernelIdeal
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
-- ==== Kernel.lean ====
abbrev S16384x8x64 : Shape := ⟨3, ![16384, 8, 64]⟩
abbrev S_ : Shape := ⟨0, ![]⟩
abbrev S64x256x512 : Shape := ⟨3, ![64, 256, 512]⟩
abbrev S64x512x256 : Shape := ⟨3, ![64, 512, 256]⟩
abbrev S16384 : Shape := ⟨1, ![16384]⟩
abbrev S16384x1 : Shape := ⟨2, ![16384, 1]⟩
abbrev S64 : Shape := ⟨1, ![64]⟩
abbrev S1x64 : Shape := ⟨2, ![1, 64]⟩
abbrev S16384x64 : Shape := ⟨2, ![16384, 64]⟩
abbrev S8x16384x64 : Shape := ⟨3, ![8, 16384, 64]⟩
abbrev S8x16384x128 : Shape := ⟨3, ![8, 16384, 128]⟩
abbrev S64x256x8x64 : Shape := ⟨4, ![64, 256, 8, 64]⟩
abbrev S64x8x64 : Shape := ⟨3, ![64, 8, 64]⟩
abbrev S8x64x64 : Shape := ⟨3, ![8, 64, 64]⟩
abbrev S16384x512 : Shape := ⟨2, ![16384, 512]⟩
abbrev S1x128x256 : Shape := ⟨3, ![1, 128, 256]⟩
abbrev S2x16384x128 : Shape := ⟨3, ![2, 16384, 128]⟩
abbrev S64x128x256 : Shape := ⟨3, ![64, 128, 256]⟩
abbrev S2x64x64 : Shape := ⟨3, ![2, 64, 64]⟩
abbrev S256x128 : Shape := ⟨2, ![256, 128]⟩
abbrev S64x256 : Shape := ⟨2, ![64, 256]⟩
abbrev S256x256 : Shape := ⟨2, ![256, 256]⟩
abbrev S8x256 : Shape := ⟨2, ![8, 256]⟩
abbrev S1x64x256 : Shape := ⟨3, ![1, 64, 256]⟩
abbrev S1x64x64 : Shape := ⟨3, ![1, 64, 64]⟩
abbrev S64x64 : Shape := ⟨2, ![64, 64]⟩
abbrev S256 : Shape := ⟨1, ![256]⟩
abbrev S1x256 : Shape := ⟨2, ![1, 256]⟩
abbrev S128x256 : Shape := ⟨2, ![128, 256]⟩
abbrev S1x256x128 : Shape := ⟨3, ![1, 256, 128]⟩

abbrev nBuf : Space → Nat
  | .hbm => 50
  | .vmem => 10
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S_, .f32⟩
  | .hbm, ⟨4, _⟩ => ⟨S16384x8x64, .f32⟩
  | .hbm, ⟨5, _⟩ => ⟨S16384x8x64, .f32⟩
  | .hbm, ⟨6, _⟩ => ⟨S64x256x512, .f32⟩
  | .hbm, ⟨7, _⟩ => ⟨S64x512x256, .f32⟩
  | .hbm, ⟨8, _⟩ => ⟨S16384, .i32⟩
  | .hbm, ⟨9, _⟩ => ⟨S16384x1, .i32⟩
  | .hbm, ⟨10, _⟩ => ⟨S_, .i32⟩
  | .hbm, ⟨11, _⟩ => ⟨S_, .i32⟩
  | .hbm, ⟨12, _⟩ => ⟨S16384x1, .i32⟩
  | .hbm, ⟨13, _⟩ => ⟨S16384x1, .i32⟩
  | .hbm, ⟨14, _⟩ => ⟨S16384x1, .i32⟩
  | .hbm, ⟨15, _⟩ => ⟨S_, .i32⟩
  | .hbm, ⟨16, _⟩ => ⟨S16384x1, .i32⟩
  | .hbm, ⟨17, _⟩ => ⟨S16384x1, .i1⟩
  | .hbm, ⟨18, _⟩ => ⟨S16384x1, .i32⟩
  | .hbm, ⟨19, _⟩ => ⟨S16384x1, .i32⟩
  | .hbm, ⟨20, _⟩ => ⟨S_, .i32⟩
  | .hbm, ⟨21, _⟩ => ⟨S16384x1, .i32⟩
  | .hbm, ⟨22, _⟩ => ⟨S16384x1, .i1⟩
  | .hbm, ⟨23, _⟩ => ⟨S16384x1, .i1⟩
  | .hbm, ⟨24, _⟩ => ⟨S_, .i32⟩
  | .hbm, ⟨25, _⟩ => ⟨S16384x1, .i32⟩
  | .hbm, ⟨26, _⟩ => ⟨S16384x1, .i32⟩
  | .hbm, ⟨27, _⟩ => ⟨S16384x1, .i32⟩
  | .hbm, ⟨28, _⟩ => ⟨S64, .i32⟩
  | .hbm, ⟨29, _⟩ => ⟨S1x64, .i32⟩
  | .hbm, ⟨30, _⟩ => ⟨S16384x64, .i32⟩
  | .hbm, ⟨31, _⟩ => ⟨S16384x64, .i32⟩
  | .hbm, ⟨32, _⟩ => ⟨S16384x64, .i1⟩
  | .hbm, ⟨33, _⟩ => ⟨S16384x64, .i32⟩
  | .hbm, ⟨34, _⟩ => ⟨S16384x64, .f32⟩
  | .hbm, ⟨35, _⟩ => ⟨S8x16384x64, .f32⟩
  | .hbm, ⟨36, _⟩ => ⟨S8x16384x64, .f32⟩
  | .hbm, ⟨37, _⟩ => ⟨S8x16384x128, .f32⟩
  | .hbm, ⟨38, _⟩ => ⟨S8x16384x128, .bf16⟩
  | .hbm, ⟨39, _⟩ => ⟨S64x256x512, .f32⟩
  | .hbm, ⟨40, _⟩ => ⟨S64x512x256, .f32⟩
  | .hbm, ⟨41, _⟩ => ⟨S64x512x256, .bf16⟩
  | .hbm, ⟨42, _⟩ => ⟨S64x256x8x64, .f32⟩
  | .hbm, ⟨43, _⟩ => ⟨S_, .f32⟩
  | .hbm, ⟨44, _⟩ => ⟨S64x8x64, .f32⟩
  | .hbm, ⟨45, _⟩ => ⟨S_, .f32⟩
  | .hbm, ⟨46, _⟩ => ⟨S64x8x64, .f32⟩
  | .hbm, ⟨47, _⟩ => ⟨S64x8x64, .f32⟩
  | .hbm, ⟨48, _⟩ => ⟨S8x64x64, .f32⟩
  | .hbm, ⟨49, _⟩ => ⟨S16384x512, .bf16⟩
  | .local _ .vmem, ⟨0, _⟩ => ⟨S1x128x256, .f32⟩
  | .local _ .vmem, ⟨1, _⟩ => ⟨S1x128x256, .f32⟩
  | .local _ .vmem, ⟨2, _⟩ => ⟨S2x16384x128, .bf16⟩
  | .local _ .vmem, ⟨3, _⟩ => ⟨S2x16384x128, .bf16⟩
  | .local _ .vmem, ⟨4, _⟩ => ⟨S64x128x256, .bf16⟩
  | .local _ .vmem, ⟨5, _⟩ => ⟨S64x128x256, .bf16⟩
  | .local _ .vmem, ⟨6, _⟩ => ⟨S2x64x64, .f32⟩
  | .local _ .vmem, ⟨7, _⟩ => ⟨S2x64x64, .f32⟩
  | .local _ .vmem, ⟨8, _⟩ => ⟨S256x128, .bf16⟩
  | .local _ .vmem, ⟨9, _⟩ => ⟨S256x128, .bf16⟩
  | _, _ => ⟨S16384x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_c : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_call0_v7 : Ref sig .tc := ⟨.hbm, 18, rfl⟩
abbrev main_call0_v8 : Ref sig .tc := ⟨.hbm, 19, rfl⟩
abbrev main_call0_c : Ref sig .tc := ⟨.hbm, 20, rfl⟩
abbrev main_call0_v9 : Ref sig .tc := ⟨.hbm, 21, rfl⟩
abbrev main_call0_v10 : Ref sig .tc := ⟨.hbm, 22, rfl⟩
abbrev main_call0_v11 : Ref sig .tc := ⟨.hbm, 23, rfl⟩
abbrev main_call0_c_0 : Ref sig .tc := ⟨.hbm, 24, rfl⟩
abbrev main_call0_v12 : Ref sig .tc := ⟨.hbm, 25, rfl⟩
abbrev main_call0_v13 : Ref sig .tc := ⟨.hbm, 26, rfl⟩
abbrev main_v6 : Ref sig .tc := ⟨.hbm, 27, rfl⟩
abbrev main_v7 : Ref sig .tc := ⟨.hbm, 28, rfl⟩
abbrev main_v8 : Ref sig .tc := ⟨.hbm, 29, rfl⟩
abbrev main_v9 : Ref sig .tc := ⟨.hbm, 30, rfl⟩
abbrev main_v10 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![4, 64], ![false, false]⟩

def k0_mult1 (i : grid0.Coords) : BitVec 32 :=
  let arg1 : BitVec 32 := BitVec.ofNat 32 (i 1).val
  let c256_i32 : BitVec 32 := 256#32
  let v165 : BitVec 32 := Scalar.muli arg1 c256_i32
  v165
def k0_off1 (i : grid0.Coords) : Fin 3 → Nat :=
  let c0_49 : Index := 0#32
  let arg1 : BitVec 32 := BitVec.ofNat 32 (i 1).val
  let c256_i32 : BitVec 32 := 256#32
  let v165 : BitVec 32 := Scalar.muli arg1 c256_i32
  let v166 : BitVec 32 := v165
  let v167 : Index := Scalar.indexCast v166
  let c0_50 : Index := 0#32
  ![0, v167.toNat, 0]
def k0_off2 (i : grid0.Coords) : Fin 3 → Nat :=
  let arg1 : BitVec 32 := BitVec.ofNat 32 (i 1).val
  let v181 : Index := Scalar.indexCast arg1
  let c0_55 : Index := 0#32
  let c0_56 : Index := 0#32
  ![v181.toNat, 0, 0]
def k0_mult2 (i : grid0.Coords) : BitVec 32 :=
  let arg1 : BitVec 32 := BitVec.ofNat 32 (i 1).val
  let c256_i32_58 : BitVec 32 := 256#32
  let v186 : BitVec 32 := Scalar.muli arg1 c256_i32_58
  v186
def k0_off3 (i : grid0.Coords) : Fin 3 → Nat :=
  let c1_59 : Index := 1#32
  let arg1 : BitVec 32 := BitVec.ofNat 32 (i 1).val
  let c256_i32_58 : BitVec 32 := 256#32
  let v186 : BitVec 32 := Scalar.muli arg1 c256_i32_58
  let v187 : BitVec 32 := v186
  let v188 : Index := Scalar.indexCast v187
  let c0_60 : Index := 0#32
  ![1, v188.toNat, 0]
def k0_off4 (i : grid0.Coords) : Fin 3 → Nat :=
  let arg1 : BitVec 32 := BitVec.ofNat 32 (i 1).val
  let v202 : Index := Scalar.indexCast arg1
  let c64_65 : Index := 64#32
  let c0_66 : Index := 0#32
  ![v202.toNat, 64, 0]
@[reducible] def k0_t1_loop (i : grid0.Coords) : Scf.Loop 32 :=
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let c1_i32_68 : BitVec 32 := 1#32
  ⟨c0_i32, v210, c1_i32_68⟩
def k0_mult3 (i : grid0.Coords) (k0_t1 : Fin (k0_t1_loop i).trips) : BitVec 32 :=
  let c0_i32 : BitVec 32 := 0#32
  let c1_i32_68 : BitVec 32 := 1#32
  let arg7 : BitVec 32 := Scf.iv c0_i32 c1_i32_68 k0_t1
  let c256_i32_72 : BitVec 32 := 256#32
  let v221 : BitVec 32 := Scalar.muli arg7 c256_i32_72
  v221
def k0_off5 (i : grid0.Coords) (k0_t1 : Fin (k0_t1_loop i).trips) : Fin 3 → Nat :=
  let c0_73 : Index := 0#32
  let c0_i32 : BitVec 32 := 0#32
  let c1_i32_68 : BitVec 32 := 1#32
  let arg7 : BitVec 32 := Scf.iv c0_i32 c1_i32_68 k0_t1
  let c256_i32_72 : BitVec 32 := 256#32
  let v221 : BitVec 32 := Scalar.muli arg7 c256_i32_72
  let v222 : BitVec 32 := v221
  let v223 : Index := Scalar.indexCast v222
  let c0_74 : Index := 0#32
  ![0, v223.toNat, 0]
def k0_off6 (i : grid0.Coords) (k0_t1 : Fin (k0_t1_loop i).trips) : Fin 3 → Nat :=
  let c0_i32 : BitVec 32 := 0#32
  let c1_i32_68 : BitVec 32 := 1#32
  let arg7 : BitVec 32 := Scf.iv c0_i32 c1_i32_68 k0_t1
  let v242 : Index := Scalar.indexCast arg7
  let c0_78 : Index := 0#32
  let c0_79 : Index := 0#32
  ![v242.toNat, 0, 0]
def k0_mult4 (i : grid0.Coords) (k0_t1 : Fin (k0_t1_loop i).trips) : BitVec 32 :=
  let c0_i32 : BitVec 32 := 0#32
  let c1_i32_68 : BitVec 32 := 1#32
  let arg7 : BitVec 32 := Scf.iv c0_i32 c1_i32_68 k0_t1
  let c256_i32_81 : BitVec 32 := 256#32
  let v247 : BitVec 32 := Scalar.muli arg7 c256_i32_81
  v247
def k0_off7 (i : grid0.Coords) (k0_t1 : Fin (k0_t1_loop i).trips) : Fin 3 → Nat :=
  let c1_82 : Index := 1#32
  let c0_i32 : BitVec 32 := 0#32
  let c1_i32_68 : BitVec 32 := 1#32
  let arg7 : BitVec 32 := Scf.iv c0_i32 c1_i32_68 k0_t1
  let c256_i32_81 : BitVec 32 := 256#32
  let v247 : BitVec 32 := Scalar.muli arg7 c256_i32_81
  let v248 : BitVec 32 := v247
  let v249 : Index := Scalar.indexCast v248
  let c0_83 : Index := 0#32
  ![1, v249.toNat, 0]
def k0_off8 (i : grid0.Coords) (k0_t1 : Fin (k0_t1_loop i).trips) : Fin 3 → Nat :=
  let c0_i32 : BitVec 32 := 0#32
  let c1_i32_68 : BitVec 32 := 1#32
  let arg7 : BitVec 32 := Scf.iv c0_i32 c1_i32_68 k0_t1
  let v268 : Index := Scalar.indexCast arg7
  let c64_87 : Index := 64#32
  let c0_88 : Index := 0#32
  ![v268.toNat, 64, 0]
@[reducible] def k0_t2_loop (i : grid0.Coords) : Scf.Loop 32 :=
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let v207 : BitVec 32 := Scalar.addi c0_i32 v206
  let c1_i32_69 : BitVec 32 := 1#32
  ⟨v210, v207, c1_i32_69⟩
def k0_mult5 (i : grid0.Coords) (k0_t2 : Fin (k0_t2_loop i).trips) : BitVec 32 :=
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let c1_i32_69 : BitVec 32 := 1#32
  let arg7 : BitVec 32 := Scf.iv v210 c1_i32_69 k0_t2
  let c256_i32_72 : BitVec 32 := 256#32
  let v221 : BitVec 32 := Scalar.muli arg7 c256_i32_72
  v221
def k0_off9 (i : grid0.Coords) (k0_t2 : Fin (k0_t2_loop i).trips) : Fin 3 → Nat :=
  let c0_73 : Index := 0#32
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let c1_i32_69 : BitVec 32 := 1#32
  let arg7 : BitVec 32 := Scf.iv v210 c1_i32_69 k0_t2
  let c256_i32_72 : BitVec 32 := 256#32
  let v221 : BitVec 32 := Scalar.muli arg7 c256_i32_72
  let v222 : BitVec 32 := v221
  let v223 : Index := Scalar.indexCast v222
  let c0_74 : Index := 0#32
  ![0, v223.toNat, 0]
def k0_off10 (i : grid0.Coords) (k0_t2 : Fin (k0_t2_loop i).trips) : Fin 3 → Nat :=
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let c1_i32_69 : BitVec 32 := 1#32
  let arg7 : BitVec 32 := Scf.iv v210 c1_i32_69 k0_t2
  let v242 : Index := Scalar.indexCast arg7
  let c0_78 : Index := 0#32
  let c0_79 : Index := 0#32
  ![v242.toNat, 0, 0]
def k0_mult6 (i : grid0.Coords) (k0_t2 : Fin (k0_t2_loop i).trips) : BitVec 32 :=
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let c1_i32_69 : BitVec 32 := 1#32
  let arg7 : BitVec 32 := Scf.iv v210 c1_i32_69 k0_t2
  let c256_i32_81 : BitVec 32 := 256#32
  let v247 : BitVec 32 := Scalar.muli arg7 c256_i32_81
  v247
def k0_off11 (i : grid0.Coords) (k0_t2 : Fin (k0_t2_loop i).trips) : Fin 3 → Nat :=
  let c1_82 : Index := 1#32
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let c1_i32_69 : BitVec 32 := 1#32
  let arg7 : BitVec 32 := Scf.iv v210 c1_i32_69 k0_t2
  let c256_i32_81 : BitVec 32 := 256#32
  let v247 : BitVec 32 := Scalar.muli arg7 c256_i32_81
  let v248 : BitVec 32 := v247
  let v249 : Index := Scalar.indexCast v248
  let c0_83 : Index := 0#32
  ![1, v249.toNat, 0]
def k0_off12 (i : grid0.Coords) (k0_t2 : Fin (k0_t2_loop i).trips) : Fin 3 → Nat :=
  let c0_i32 : BitVec 32 := 0#32
  let arg1 : BitVec 32 := BitVec.ofNat 32 (i 1).val
  let v206 : BitVec 32 := Scalar.subi arg1 c0_i32
  let c1_i32 : BitVec 32 := 1#32
  let v208 : BitVec 32 := Scalar.divsi v206 c1_i32
  let v209 : BitVec 32 := Scalar.muli v208 c1_i32
  let v210 : BitVec 32 := Scalar.addi c0_i32 v209
  let c1_i32_69 : BitVec 32 := 1#32
  let arg7 : BitVec 32 := Scf.iv v210 c1_i32_69 k0_t2
  let v268 : Index := Scalar.indexCast arg7
  let c64_87 : Index := 64#32
  let c0_88 : Index := 0#32
  ![v268.toNat, 64, 0]
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1x128x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S2x16384x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S64x128x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x64x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "mask" => some ⊥
  | _ => none
-- ==== ReferenceIdeal.lean ====
abbrev S16384x8x64 : Shape := ⟨3, ![16384, 8, 64]⟩
abbrev S64x256x8x64 : Shape := ⟨4, ![64, 256, 8, 64]⟩
abbrev S_ : Shape := ⟨0, ![]⟩
abbrev S64x8x64 : Shape := ⟨3, ![64, 8, 64]⟩
abbrev S64 : Shape := ⟨1, ![64]⟩
abbrev S256 : Shape := ⟨1, ![256]⟩
abbrev S64x1 : Shape := ⟨2, ![64, 1]⟩
abbrev S64x256 : Shape := ⟨2, ![64, 256]⟩
abbrev S16384 : Shape := ⟨1, ![16384]⟩
abbrev S8x64x16384 : Shape := ⟨3, ![8, 64, 16384]⟩
abbrev S1x64 : Shape := ⟨2, ![1, 64]⟩
abbrev S16384x1 : Shape := ⟨2, ![16384, 1]⟩
abbrev S16384x64 : Shape := ⟨2, ![16384, 64]⟩
abbrev S16384x1x64 : Shape := ⟨3, ![16384, 1, 64]⟩
abbrev S16384x8x3 : Shape := ⟨3, ![16384, 8, 3]⟩
abbrev S16384x1x1 : Shape := ⟨3, ![16384, 1, 1]⟩
abbrev S8x64x256x64 : Shape := ⟨4, ![8, 64, 256, 64]⟩
abbrev S8x16384x3 : Shape := ⟨3, ![8, 16384, 3]⟩
abbrev S8x16384x3x1 : Shape := ⟨4, ![8, 16384, 3, 1]⟩
abbrev S8x16384x3x256x64 : Shape := ⟨5, ![8, 16384, 3, 256, 64]⟩
abbrev S16384x8x3x256x64 : Shape := ⟨5, ![16384, 8, 3, 256, 64]⟩
abbrev S16384x8x3x256 : Shape := ⟨4, ![16384, 8, 3, 256]⟩
abbrev S16384x8x3x1 : Shape := ⟨4, ![16384, 8, 3, 1]⟩
abbrev S16384x8x768 : Shape := ⟨3, ![16384, 8, 768]⟩
abbrev S64x8x256x256 : Shape := ⟨4, ![64, 8, 256, 256]⟩
abbrev S64x256x8x256 : Shape := ⟨4, ![64, 256, 8, 256]⟩
abbrev S1x256 : Shape := ⟨2, ![1, 256]⟩
abbrev S256x1 : Shape := ⟨2, ![256, 1]⟩
abbrev S256x256 : Shape := ⟨2, ![256, 256]⟩
abbrev S256x1x256 : Shape := ⟨3, ![256, 1, 256]⟩
abbrev S16384x8x256 : Shape := ⟨3, ![16384, 8, 256]⟩
abbrev S16384x8x1024 : Shape := ⟨3, ![16384, 8, 1024]⟩
abbrev S16384x8 : Shape := ⟨2, ![16384, 8]⟩
abbrev S16384x8x1 : Shape := ⟨3, ![16384, 8, 1]⟩
abbrev S64x8x64x256 : Shape := ⟨4, ![64, 8, 64, 256]⟩
abbrev S16384x512 : Shape := ⟨2, ![16384, 512]⟩

abbrev nBuf : Space → Nat
  | .hbm => 98
  | .vmem => 0
  | .smem => 0
  | _ => 0

abbrev bufTy : (tb : Table) → Fin (tcTables nBuf tb) → BufTy
  | .hbm, ⟨0, _⟩ => ⟨S16384x8x64, .f32⟩
  | .hbm, ⟨1, _⟩ => ⟨S16384x8x64, .f32⟩
  | .hbm, ⟨2, _⟩ => ⟨S16384x8x64, .f32⟩
  | .hbm, ⟨3, _⟩ => ⟨S64x256x8x64, .f32⟩
  | .hbm, ⟨4, _⟩ => ⟨S64x256x8x64, .f32⟩
  | .hbm, ⟨5, _⟩ => ⟨S64x256x8x64, .f32⟩
  | .hbm, ⟨6, _⟩ => ⟨S_, .f32⟩
  | .hbm, ⟨7, _⟩ => ⟨S64x8x64, .f32⟩
  | .hbm, ⟨8, _⟩ => ⟨S_, .f32⟩
  | .hbm, ⟨9, _⟩ => ⟨S64x8x64, .f32⟩
  | .hbm, ⟨10, _⟩ => ⟨S64x8x64, .f32⟩
  | .hbm, ⟨11, _⟩ => ⟨S64, .i32⟩
  | .hbm, ⟨12, _⟩ => ⟨S256, .i32⟩
  | .hbm, ⟨13, _⟩ => ⟨S64x1, .i32⟩
  | .hbm, ⟨14, _⟩ => ⟨S64x256, .i32⟩
  | .hbm, ⟨15, _⟩ => ⟨S16384, .i32⟩
  | .hbm, ⟨16, _⟩ => ⟨S8x64x16384, .f32⟩
  | .hbm, ⟨17, _⟩ => ⟨S16384x8x64, .f32⟩
  | .hbm, ⟨18, _⟩ => ⟨S1x64, .i32⟩
  | .hbm, ⟨19, _⟩ => ⟨S16384x1, .i32⟩
  | .hbm, ⟨20, _⟩ => ⟨S16384x64, .i32⟩
  | .hbm, ⟨21, _⟩ => ⟨S16384x64, .i32⟩
  | .hbm, ⟨22, _⟩ => ⟨S16384x64, .i1⟩
  | .hbm, ⟨23, _⟩ => ⟨S16384x1x64, .i1⟩
  | .hbm, ⟨24, _⟩ => ⟨S_, .f32⟩
  | .hbm, ⟨25, _⟩ => ⟨S_, .f32⟩
  | .hbm, ⟨26, _⟩ => ⟨S16384x8x64, .i1⟩
  | .hbm, ⟨27, _⟩ => ⟨S16384x8x64, .f32⟩
  | .hbm, ⟨28, _⟩ => ⟨S16384x8x64, .f32⟩
  | .hbm, ⟨29, _⟩ => ⟨S16384x8x3, .f32⟩
  | .hbm, ⟨30, _⟩ => ⟨S16384x8x3, .i32⟩
  | .hbm, ⟨31, _⟩ => ⟨S16384x1x1, .i32⟩
  | .hbm, ⟨32, _⟩ => ⟨S16384x8x3, .i32⟩
  | .hbm, ⟨33, _⟩ => ⟨S16384x8x3, .i1⟩
  | .hbm, ⟨34, _⟩ => ⟨S8x64x256x64, .f32⟩
  | .hbm, ⟨35, _⟩ => ⟨S8x16384x3, .i32⟩
  | .hbm, ⟨36, _⟩ => ⟨S8x16384x3x1, .i32⟩
  | .hbm, ⟨37, _⟩ => ⟨S8x16384x3x256x64, .f32⟩
  | .hbm, ⟨38, _⟩ => ⟨S16384x8x3x256x64, .f32⟩
  | .hbm, ⟨39, _⟩ => ⟨S8x64x256x64, .f32⟩
  | .hbm, ⟨40, _⟩ => ⟨S8x16384x3, .i32⟩
  | .hbm, ⟨41, _⟩ => ⟨S8x16384x3x1, .i32⟩
  | .hbm, ⟨42, _⟩ => ⟨S8x16384x3x256x64, .f32⟩
  | .hbm, ⟨43, _⟩ => ⟨S16384x8x3x256x64, .f32⟩
  | .hbm, ⟨44, _⟩ => ⟨S16384x8x3x256, .f32⟩
  | .hbm, ⟨45, _⟩ => ⟨S_, .f32⟩
  | .hbm, ⟨46, _⟩ => ⟨S16384x8x3x256, .f32⟩
  | .hbm, ⟨47, _⟩ => ⟨S16384x8x3x256, .f32⟩
  | .hbm, ⟨48, _⟩ => ⟨S16384x8x3x1, .i1⟩
  | .hbm, ⟨49, _⟩ => ⟨S_, .f32⟩
  | .hbm, ⟨50, _⟩ => ⟨S_, .f32⟩
  | .hbm, ⟨51, _⟩ => ⟨S16384x8x3x256, .i1⟩
  | .hbm, ⟨52, _⟩ => ⟨S16384x8x3x256, .f32⟩
  | .hbm, ⟨53, _⟩ => ⟨S16384x8x3x256, .f32⟩
  | .hbm, ⟨54, _⟩ => ⟨S16384x8x768, .f32⟩
  | .hbm, ⟨55, _⟩ => ⟨S64x8x256x256, .f32⟩
  | .hbm, ⟨56, _⟩ => ⟨S64x256x8x256, .f32⟩
  | .hbm, ⟨57, _⟩ => ⟨S_, .f32⟩
  | .hbm, ⟨58, _⟩ => ⟨S64x256x8x256, .f32⟩
  | .hbm, ⟨59, _⟩ => ⟨S64x256x8x256, .f32⟩
  | .hbm, ⟨60, _⟩ => ⟨S1x256, .i32⟩
  | .hbm, ⟨61, _⟩ => ⟨S256x1, .i32⟩
  | .hbm, ⟨62, _⟩ => ⟨S256x256, .i32⟩
  | .hbm, ⟨63, _⟩ => ⟨S256x256, .i32⟩
  | .hbm, ⟨64, _⟩ => ⟨S256x256, .i1⟩
  | .hbm, ⟨65, _⟩ => ⟨S256x1x256, .i1⟩
  | .hbm, ⟨66, _⟩ => ⟨S_, .f32⟩
  | .hbm, ⟨67, _⟩ => ⟨S_, .f32⟩
  | .hbm, ⟨68, _⟩ => ⟨S64x256x8x256, .i1⟩
  | .hbm, ⟨69, _⟩ => ⟨S64x256x8x256, .f32⟩
  | .hbm, ⟨70, _⟩ => ⟨S64x256x8x256, .f32⟩
  | .hbm, ⟨71, _⟩ => ⟨S16384x8x256, .f32⟩
  | .hbm, ⟨72, _⟩ => ⟨S16384x8x1024, .f32⟩
  | .hbm, ⟨73, _⟩ => ⟨S_, .f32⟩
  | .hbm, ⟨74, _⟩ => ⟨S16384x8, .f32⟩
  | .hbm, ⟨75, _⟩ => ⟨S_, .f32⟩
  | .hbm, ⟨76, _⟩ => ⟨S16384x8, .f32⟩
  | .hbm, ⟨77, _⟩ => ⟨S16384x8, .f32⟩
  | .hbm, ⟨78, _⟩ => ⟨S16384x8x1, .f32⟩
  | .hbm, ⟨79, _⟩ => ⟨S16384x8x1024, .f32⟩
  | .hbm, ⟨80, _⟩ => ⟨S16384x8x1024, .f32⟩
  | .hbm, ⟨81, _⟩ => ⟨S16384x8x1024, .f32⟩
  | .hbm, ⟨82, _⟩ => ⟨S_, .f32⟩
  | .hbm, ⟨83, _⟩ => ⟨S16384x8, .f32⟩
  | .hbm, ⟨84, _⟩ => ⟨S16384x8x1, .f32⟩
  | .hbm, ⟨85, _⟩ => ⟨S16384x8x1024, .f32⟩
  | .hbm, ⟨86, _⟩ => ⟨S16384x8x1024, .f32⟩
  | .hbm, ⟨87, _⟩ => ⟨S16384x8x768, .f32⟩
  | .hbm, ⟨88, _⟩ => ⟨S16384x8x3x256, .f32⟩
  | .hbm, ⟨89, _⟩ => ⟨S16384x8x256, .f32⟩
  | .hbm, ⟨90, _⟩ => ⟨S64x256x8x256, .f32⟩
  | .hbm, ⟨91, _⟩ => ⟨S64x8x64x256, .f32⟩
  | .hbm, ⟨92, _⟩ => ⟨S64x256x8x64, .f32⟩
  | .hbm, ⟨93, _⟩ => ⟨S16384x8x64, .f32⟩
  | .hbm, ⟨94, _⟩ => ⟨S16384x8x64, .f32⟩
  | .hbm, ⟨95, _⟩ => ⟨S16384x8x64, .f32⟩
  | .hbm, ⟨96, _⟩ => ⟨S16384x512, .f32⟩
  | .hbm, ⟨97, _⟩ => ⟨S16384x512, .bf16⟩
  | _, _ => ⟨S16384x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_cst_0 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_cst_1 : Ref sig .tc := ⟨.hbm, 24, rfl⟩
abbrev main_call0_v0 : Ref sig .tc := ⟨.hbm, 25, rfl⟩
abbrev main_call0_v1 : Ref sig .tc := ⟨.hbm, 26, rfl⟩
abbrev main_call0_v2 : Ref sig .tc := ⟨.hbm, 27, rfl⟩
abbrev main_v19 : Ref sig .tc := ⟨.hbm, 28, rfl⟩
abbrev main_values : Ref sig .tc := ⟨.hbm, 29, rfl⟩
abbrev main_indices : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_cst_2 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_cst_3 : Ref sig .tc := ⟨.hbm, 49, rfl⟩
abbrev main_call1_v0 : Ref sig .tc := ⟨.hbm, 50, rfl⟩
abbrev main_call1_v1 : Ref sig .tc := ⟨.hbm, 51, rfl⟩
abbrev main_call1_v2 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_cst_4 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_5 : Ref sig .tc := ⟨.hbm, 66, rfl⟩
abbrev main_call2_v0 : Ref sig .tc := ⟨.hbm, 67, rfl⟩
abbrev main_call2_v1 : Ref sig .tc := ⟨.hbm, 68, rfl⟩
abbrev main_call2_v2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_cst_6 : Ref sig .tc := ⟨.hbm, 73, rfl⟩
abbrev main_v52 : Ref sig .tc := ⟨.hbm, 74, rfl⟩
abbrev main_cst_7 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_8 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩

abbrev nD : Nat := 1
abbrev τ : Topo := Topo.v7x

variable {F : FTy → Type} [FloatOps F]
-- ==== Kernel2.lean ====
abbrev S1x16384x1024 : Shape := ⟨3, ![1, 16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S16384x1024 : Shape := ⟨2, ![16384, 1024]⟩
abbrev S512x1024 : Shape := ⟨2, ![512, 1024]⟩
abbrev S512x512 : Shape := ⟨2, ![512, 512]⟩
abbrev S512 : Shape := ⟨1, ![512]⟩
abbrev S512x1 : Shape := ⟨2, ![512, 1]⟩

abbrev nBuf : Space → Nat
  | .hbm => 19
  | .vmem => 18
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S16384x1024, .f32⟩
  | .hbm, ⟨18, _⟩ => ⟨S16384x1024, .f32⟩
  | .local _ .vmem, ⟨0, _⟩ => ⟨S512x1024, .f32⟩
  | .local _ .vmem, ⟨1, _⟩ => ⟨S512x1024, .f32⟩
  | .local _ .vmem, ⟨2, _⟩ => ⟨S512x512, .bf16⟩
  | .local _ .vmem, ⟨3, _⟩ => ⟨S512x512, .bf16⟩
  | .local _ .vmem, ⟨4, _⟩ => ⟨S512x512, .bf16⟩
  | .local _ .vmem, ⟨5, _⟩ => ⟨S512x512, .bf16⟩
  | .local _ .vmem, ⟨6, _⟩ => ⟨S1024x1024, .bf16⟩
  | .local _ .vmem, ⟨7, _⟩ => ⟨S1x1024, .f32⟩
  | .local _ .vmem, ⟨8, _⟩ => ⟨S1024x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x1024, .bf16⟩
  | .local _ .vmem, ⟨12, _⟩ => ⟨S1x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .bf16⟩
  | .local _ .vmem, ⟨17, _⟩ => ⟨S512x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨2, ![32, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S512x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S1x16384x1024 : Shape := ⟨3, ![1, 16384, 1024]⟩
abbrev S16384x512 : Shape := ⟨2, ![16384, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S16384x1024 : Shape := ⟨2, ![16384, 1024]⟩
abbrev S1024x1024 : Shape := ⟨2, ![1024, 1024]⟩
abbrev S_ : Shape := ⟨0, ![]⟩
abbrev S16384 : Shape := ⟨1, ![16384]⟩
abbrev S16384x1 : Shape := ⟨2, ![16384, 1]⟩
abbrev S1024x4096 : Shape := ⟨2, ![1024, 4096]⟩
abbrev S16384x4096 : Shape := ⟨2, ![16384, 4096]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S16384x512, .bf16⟩
  | .hbm, ⟨2, _⟩ => ⟨S16384x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S16384x1024, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S1024x1024, .f32⟩
  | .hbm, ⟨13, _⟩ => ⟨S16384x1024, .f32⟩
  | .hbm, ⟨14, _⟩ => ⟨S16384x1024, .f32⟩
  | .hbm, ⟨15, _⟩ => ⟨S1024, .f32⟩
  | .hbm, ⟨16, _⟩ => ⟨S16384x1024, .f32⟩
  | .hbm, ⟨17, _⟩ => ⟨S_, .f32⟩
  | .hbm, ⟨18, _⟩ => ⟨S16384, .f32⟩
  | .hbm, ⟨19, _⟩ => ⟨S16384x1, .f32⟩
  | .hbm, ⟨20, _⟩ => ⟨S_, .f32⟩
  | .hbm, ⟨21, _⟩ => ⟨S16384x1, .f32⟩
  | .hbm, ⟨22, _⟩ => ⟨S16384x1, .f32⟩
  | .hbm, ⟨23, _⟩ => ⟨S_, .f32⟩
  | .hbm, ⟨24, _⟩ => ⟨S16384x1, .f32⟩
  | .hbm, ⟨25, _⟩ => ⟨S16384x1, .f32⟩
  | .hbm, ⟨26, _⟩ => ⟨S16384x1, .f32⟩
  | .hbm, ⟨27, _⟩ => ⟨S16384x1024, .f32⟩
  | .hbm, ⟨28, _⟩ => ⟨S16384x1024, .f32⟩
  | .hbm, ⟨29, _⟩ => ⟨S1x1024, .f32⟩
  | .hbm, ⟨30, _⟩ => ⟨S16384x1024, .f32⟩
  | .hbm, ⟨31, _⟩ => ⟨S16384x1024, .f32⟩
  | .hbm, ⟨32, _⟩ => ⟨S1024x4096, .f32⟩
  | .hbm, ⟨33, _⟩ => ⟨S16384x4096, .f32⟩
  | .hbm, ⟨34, _⟩ => ⟨S_, .f32⟩
  | .hbm, ⟨35, _⟩ => ⟨S16384x4096, .f32⟩
  | .hbm, ⟨36, _⟩ => ⟨S16384x4096, .f32⟩
  | .hbm, ⟨37, _⟩ => ⟨S16384x4096, .f32⟩
  | .hbm, ⟨38, _⟩ => ⟨S4096x1024, .f32⟩
  | .hbm, ⟨39, _⟩ => ⟨S16384x1024, .f32⟩
  | .hbm, ⟨40, _⟩ => ⟨S16384x1024, .f32⟩
  | .hbm, ⟨41, _⟩ => ⟨S16384x1024, .f32⟩
  | .hbm, ⟨42, _⟩ => ⟨S_, .f32⟩
  | .hbm, ⟨43, _⟩ => ⟨S16384, .f32⟩
  | .hbm, ⟨44, _⟩ => ⟨S16384x1, .f32⟩
  | .hbm, ⟨45, _⟩ => ⟨S_, .f32⟩
  | .hbm, ⟨46, _⟩ => ⟨S16384x1, .f32⟩
  | .hbm, ⟨47, _⟩ => ⟨S16384x1, .f32⟩
  | .hbm, ⟨48, _⟩ => ⟨S_, .f32⟩
  | .hbm, ⟨49, _⟩ => ⟨S16384x1, .f32⟩
  | .hbm, ⟨50, _⟩ => ⟨S16384x1, .f32⟩
  | .hbm, ⟨51, _⟩ => ⟨S16384x1, .f32⟩
  | .hbm, ⟨52, _⟩ => ⟨S16384x1024, .f32⟩
  | .hbm, ⟨53, _⟩ => ⟨S16384x1024, .f32⟩
  | .hbm, ⟨54, _⟩ => ⟨S1x1024, .f32⟩
  | .hbm, ⟨55, _⟩ => ⟨S16384x1024, .f32⟩
  | .hbm, ⟨56, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Kernel3.lean ====
abbrev S1x16384x1024 : Shape := ⟨3, ![1, 16384, 1024]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S16384x1024 : Shape := ⟨2, ![16384, 1024]⟩
abbrev S1024 : Shape := ⟨1, ![1024]⟩
abbrev S1024x2048 : Shape := ⟨2, ![1024, 2048]⟩
abbrev S1024x1536 : Shape := ⟨2, ![1024, 1536]⟩
abbrev S1536x1024 : Shape := ⟨2, ![1536, 1024]⟩
abbrev S1024x512 : Shape := ⟨2, ![1024, 512]⟩
abbrev S1024x1024 : Shape := ⟨2, ![1024, 1024]⟩
abbrev S4x128x128 : Shape := ⟨3, ![4, 128, 128]⟩
abbrev S512 : Shape := ⟨1, ![512]⟩
abbrev S16384 : Shape := ⟨1, ![16384]⟩
abbrev S8 : Shape := ⟨1, ![8]⟩
abbrev S_ : Shape := ⟨0, ![]⟩
abbrev S16384x1 : Shape := ⟨2, ![16384, 1]⟩
abbrev S1x8 : Shape := ⟨2, ![1, 8]⟩
abbrev S16384x8 : Shape := ⟨2, ![16384, 8]⟩
abbrev S128 : Shape := ⟨1, ![128]⟩
abbrev S1x128 : Shape := ⟨2, ![1, 128]⟩
abbrev S128x1 : Shape := ⟨2, ![128, 1]⟩
abbrev S16384x128 : Shape := ⟨2, ![16384, 128]⟩
abbrev S8x16384 : Shape := ⟨2, ![8, 16384]⟩
abbrev S64x512x256 : Shape := ⟨3, ![64, 512, 256]⟩
abbrev S512x16384 : Shape := ⟨2, ![512, 16384]⟩
abbrev S8x16384x128 : Shape := ⟨3, ![8, 16384, 128]⟩
abbrev S64x8x512 : Shape := ⟨3, ![64, 8, 512]⟩
abbrev S16384x512 : Shape := ⟨2, ![16384, 512]⟩
abbrev S16x512 : Shape := ⟨2, ![16, 512]⟩
abbrev S256x1024 : Shape := ⟨2, ![256, 1024]⟩
abbrev S8x256 : Shape := ⟨2, ![8, 256]⟩
abbrev S256x128 : Shape := ⟨2, ![256, 128]⟩
abbrev S1x512x256 : Shape := ⟨3, ![1, 512, 256]⟩
abbrev S512x256 : Shape := ⟨2, ![512, 256]⟩
abbrev S8x256x128 : Shape := ⟨3, ![8, 256, 128]⟩
abbrev S1x8x512 : Shape := ⟨3, ![1, 8, 512]⟩
abbrev S256x512 : Shape := ⟨2, ![256, 512]⟩
abbrev S272x512 : Shape := ⟨2, ![272, 512]⟩
abbrev S256 : Shape := ⟨1, ![256]⟩
abbrev S256x1 : Shape := ⟨2, ![256, 1]⟩
abbrev S1536x256 : Shape := ⟨2, ![1536, 256]⟩
abbrev S48x256 : Shape := ⟨2, ![48, 256]⟩
abbrev S1x8x256 : Shape := ⟨3, ![1, 8, 256]⟩
abbrev S1x48x256 : Shape := ⟨3, ![1, 48, 256]⟩
abbrev S1x256x128 : Shape := ⟨3, ![1, 256, 128]⟩
abbrev S8x128 : Shape := ⟨2, ![8, 128]⟩
abbrev S1x8x128 : Shape := ⟨3, ![1, 8, 128]⟩
abbrev S1x128x128 : Shape := ⟨3, ![1, 128, 128]⟩
abbrev S128x128 : Shape := ⟨2, ![128, 128]⟩
abbrev S8x64x16384 : Shape := ⟨3, ![8, 64, 16384]⟩
abbrev S16384x8x64 : Shape := ⟨3, ![16384, 8, 64]⟩
abbrev S1x16384x8x64 : Shape := ⟨4, ![1, 16384, 8, 64]⟩
abbrev S15x512 : Shape := ⟨2, ![15, 512]⟩
abbrev S1x15x512 : Shape := ⟨3, ![1, 15, 512]⟩
abbrev S1x1x16384x8x64 : Shape := ⟨5, ![1, 1, 16384, 8, 64]⟩
abbrev S1x1x15x512 : Shape := ⟨4, ![1, 1, 15, 512]⟩

abbrev nBuf : Space → Nat
  | .hbm => 162
  | .vmem => 33
  | .smem => 0
  | _ => 0

abbrev hbmTy0_0 (i : Nat) : BufTy := match i % 128 with
  | 0 => ⟨S1x16384x1024, .f32⟩
  | 1 => ⟨S1x1024, .f32⟩
  | 2 => ⟨S1x1024x2048, .f32⟩
  | 3 => ⟨S1x4x128x128, .f32⟩
  | 4 => ⟨S1x512, .f32⟩
  | 5 => ⟨S16384x1024, .f32⟩
  | 6 => ⟨S1024, .f32⟩
  | 7 => ⟨S1x1024, .f32⟩
  | 8 => ⟨S1024x2048, .f32⟩
  | 9 => ⟨S1024x2048, .bf16⟩
  | 10 => ⟨S1024x1536, .bf16⟩
  | 11 => ⟨S1536x1024, .bf16⟩
  | 12 => ⟨S1024x512, .bf16⟩
  | 13 => ⟨S1024x512, .bf16⟩
  | 14 => ⟨S1024x1024, .bf16⟩
  | 15 => ⟨S4x128x128, .f32⟩
  | 16 => ⟨S4x128x128, .bf16⟩
  | 17 => ⟨S512, .f32⟩
  | 18 => ⟨S1x512, .f32⟩
  | 19 => ⟨S16384, .i32⟩
  | 20 => ⟨S8, .f32⟩
  | 21 => ⟨S8, .f32⟩
  | 22 => ⟨S_, .f32⟩
  | 23 => ⟨S8, .f32⟩
  | 24 => ⟨S8, .f32⟩
  | 25 => ⟨S_, .f32⟩
  | 26 => ⟨S8, .f32⟩
  | 27 => ⟨S8, .f32⟩
  | 28 => ⟨S16384, .f32⟩
  | 29 => ⟨S16384x1, .f32⟩
  | 30 => ⟨S1x8, .f32⟩
  | 31 => ⟨S16384x8, .f32⟩
  | 32 => ⟨S16384x8, .f32⟩
  | 33 => ⟨S16384x8, .f32⟩
  | 34 => ⟨S16384x8, .f32⟩
  | 35 => ⟨S16384x8, .f32⟩
  | 36 => ⟨S128, .i32⟩
  | 37 => ⟨S_, .i32⟩
  | 38 => ⟨S_, .i32⟩
  | 39 => ⟨S_, .i32⟩
  | 40 => ⟨S_, .i1⟩
  | 41 => ⟨S_, .i32⟩
  | 42 => ⟨S_, .i32⟩
  | 43 => ⟨S128, .i32⟩
  | 44 => ⟨S128, .i32⟩
  | 45 => ⟨S_, .i32⟩
  | 46 => ⟨S128, .i32⟩
  | 47 => ⟨S128, .i1⟩
  | 48 => ⟨S_, .i32⟩
  | 49 => ⟨S128, .i32⟩
  | 50 => ⟨S128, .i1⟩
  | 51 => ⟨S_, .i32⟩
  | 52 => ⟨S_, .i1⟩
  | 53 => ⟨S128, .i1⟩
  | 54 => ⟨S128, .i1⟩
  | 55 => ⟨S128, .i1⟩
  | 56 => ⟨S128, .i32⟩
  | 57 => ⟨S128, .i32⟩
  | 58 => ⟨S128, .i32⟩
  | 59 => ⟨S_, .i32⟩
  | 60 => ⟨S_, .i32⟩
  | 61 => ⟨S_, .i32⟩
  | 62 => ⟨S_, .i1⟩
  | 63 => ⟨S_, .i32⟩
  | 64 => ⟨S_, .i32⟩
  | 65 => ⟨S128, .i32⟩
  | 66 => ⟨S128, .i32⟩
  | 67 => ⟨S_, .i32⟩
  | 68 => ⟨S128, .i32⟩
  | 69 => ⟨S128, .i1⟩
  | 70 => ⟨S_, .i32⟩
  | 71 => ⟨S128, .i32⟩
  | 72 => ⟨S128, .i1⟩
  | 73 => ⟨S_, .i32⟩
  | 74 => ⟨S_, .i1⟩
  | 75 => ⟨S128, .i1⟩
  | 76 => ⟨S128, .i1⟩
  | 77 => ⟨S128, .i1⟩
  | 78 => ⟨S128, .i32⟩
  | 79 => ⟨S128, .i32⟩
  | 80 => ⟨S128, .i32⟩
  | 81 => ⟨S1x128, .i32⟩
  | 82 => ⟨S_, .i32⟩
  | 83 => ⟨S1x128, .i32⟩
  | 84 => ⟨S1x128, .i1⟩
  | 85 => ⟨S_, .i32⟩
  | 86 => ⟨S128, .i32⟩
  | 87 => ⟨S128, .i1⟩
  | 88 => ⟨S_, .i32⟩
  | 89 => ⟨S128, .i32⟩
  | 90 => ⟨S128, .i32⟩
  | 91 => ⟨S128, .i32⟩
  | 92 => ⟨S128x1, .i32⟩
  | 93 => ⟨S16384x128, .f32⟩
  | 94 => ⟨S_, .f32⟩
  | 95 => ⟨S_, .f32⟩
  | 96 => ⟨S16384x128, .i1⟩
  | 97 => ⟨S16384x128, .f32⟩
  | 98 => ⟨S16384x128, .f32⟩
  | 99 => ⟨S1x128, .i32⟩
  | 100 => ⟨S_, .i32⟩
  | 101 => ⟨S1x128, .i32⟩
  | 102 => ⟨S1x128, .i1⟩
  | 103 => ⟨S_, .i32⟩
  | 104 => ⟨S128, .i32⟩
  | 105 => ⟨S128, .i1⟩
  | 106 => ⟨S_, .i32⟩
  | 107 => ⟨S128, .i32⟩
  | 108 => ⟨S128, .i32⟩
  | 109 => ⟨S128, .i32⟩
  | 110 => ⟨S128x1, .i32⟩
  | 111 => ⟨S16384x128, .f32⟩
  | 112 => ⟨S16384x128, .f32⟩
  | 113 => ⟨S_, .f32⟩
  | 114 => ⟨S_, .f32⟩
  | 115 => ⟨S16384x128, .i1⟩
  | 116 => ⟨S16384x128, .f32⟩
  | 117 => ⟨S16384x128, .f32⟩
  | 118 => ⟨S1x128, .i32⟩
  | 119 => ⟨S_, .i32⟩
  | 120 => ⟨S1x128, .i32⟩
  | 121 => ⟨S1x128, .i1⟩
  | 122 => ⟨S1x128, .i32⟩
  | 123 => ⟨S_, .i32⟩
  | 124 => ⟨S1x128, .i32⟩
  | 125 => ⟨S1x128, .i1⟩
  | 126 => ⟨S1x128, .i1⟩
  | 127 => ⟨S_, .i32⟩
  | _ => ⟨S1x16384x1024, .f32⟩

abbrev hbmTy0_1 (i : Nat) : BufTy := match i % 128 with
  | 0 => ⟨S128, .i32⟩
  | 1 => ⟨S128, .i1⟩
  | 2 => ⟨S_, .i32⟩
  | 3 => ⟨S128, .i32⟩
  | 4 => ⟨S128, .i32⟩
  | 5 => ⟨S128, .i32⟩
  | 6 => ⟨S128x1, .i32⟩
  | 7 => ⟨S16384x128, .f32⟩
  | 8 => ⟨S_, .f32⟩
  | 9 => ⟨S_, .f32⟩
  | 10 => ⟨S16384x128, .i1⟩
  | 11 => ⟨S16384x128, .f32⟩
  | 12 => ⟨S16384x128, .f32⟩
  | 13 => ⟨S8x16384, .f32⟩
  | 14 => ⟨S8x16384, .f32⟩
  | 15 => ⟨S64x512x256, .f32⟩
  | 16 => ⟨S512x16384, .f32⟩
  | 17 => ⟨S512x16384, .f32⟩
  | 18 => ⟨S64x512x256, .bf16⟩
  | 19 => ⟨S8x16384x128, .bf16⟩
  | 20 => ⟨S64x8x512, .f32⟩
  | 21 => ⟨S16384x512, .bf16⟩
  | 22 => ⟨S16x512, .f32⟩
  | 23 => ⟨S8x64x16384, .f32⟩
  | 24 => ⟨S16384x8x64, .f32⟩
  | 25 => ⟨S1x16384x8x64, .f32⟩
  | 26 => ⟨S8x64x16384, .f32⟩
  | 27 => ⟨S16384x8x64, .f32⟩
  | 28 => ⟨S1x16384x8x64, .f32⟩
  | 29 => ⟨S15x512, .f32⟩
  | 30 => ⟨S1x15x512, .f32⟩
  | 31 => ⟨S1x1x16384x8x64, .f32⟩
  | 32 => ⟨S1x1x16384x8x64, .f32⟩
  | 33 => ⟨S1x1x15x512, .f32⟩
  | _ => ⟨S1x16384x1024, .f32⟩

abbrev hbmTy (i : Nat) : BufTy := match i / 128 with
  | 0 => hbmTy0_0 i
  | 1 => hbmTy0_1 i
  | _ => ⟨S1x16384x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S1536x1024, .bf16⟩
  | .local _ .vmem, ⟨4, _⟩ => ⟨S1024x1024, .bf16⟩
  | .local _ .vmem, ⟨5, _⟩ => ⟨S8x256, .f32⟩
  | .local _ .vmem, ⟨6, _⟩ => ⟨S8x256, .f32⟩
  | .local _ .vmem, ⟨7, _⟩ => ⟨S8x256, .f32⟩
  | .local _ .vmem, ⟨8, _⟩ => ⟨S8x256, .f32⟩
  | .local _ .vmem, ⟨9, _⟩ => ⟨S256x128, .f32⟩
  | .local _ .vmem, ⟨10, _⟩ => ⟨S256x128, .f32⟩
  | .local _ .vmem, ⟨11, _⟩ => ⟨S256x128, .f32⟩
  | .local _ .vmem, ⟨12, _⟩ => ⟨S256x128, .f32⟩
  | .local _ .vmem, ⟨13, _⟩ => ⟨S256x128, .f32⟩
  | .local _ .vmem, ⟨14, _⟩ => ⟨S256x128, .f32⟩
  | .local _ .vmem, ⟨15, _⟩ => ⟨S4x128x128, .bf16⟩
  | .local _ .vmem, ⟨16, _⟩ => ⟨S1x512, .f32⟩
  | .local _ .vmem, ⟨17, _⟩ => ⟨S1x512x256, .f32⟩
  | .local _ .vmem, ⟨18, _⟩ => ⟨S1x512x256, .f32⟩
  | .local _ .vmem, ⟨19, _⟩ => ⟨S512x256, .f32⟩
  | .local _ .vmem, ⟨20, _⟩ => ⟨S512x256, .f32⟩
  | .local _ .vmem, ⟨21, _⟩ => ⟨S512x256, .f32⟩
  | .local _ .vmem, ⟨22, _⟩ => ⟨S512x256, .f32⟩
  | .local _ .vmem, ⟨23, _⟩ => ⟨S1x512x256, .bf16⟩
  | .local _ .vmem, ⟨24, _⟩ => ⟨S1x512x256, .bf16⟩
  | .local _ .vmem, ⟨25, _⟩ => ⟨S8x256x128, .bf16⟩
  | .local _ .vmem, ⟨26, _⟩ => ⟨S8x256x128, .bf16⟩
  | .local _ .vmem, ⟨27, _⟩ => ⟨S1x8x512, .f32⟩
  | .local _ .vmem, ⟨28, _⟩ => ⟨S1x8x512, .f32⟩
  | .local _ .vmem, ⟨29, _⟩ => ⟨S256x512, .bf16⟩
  | .local _ .vmem, ⟨30, _⟩ => ⟨S256x512, .bf16⟩
  | .local _ .vmem, ⟨31, _⟩ => ⟨S16x512, .f32⟩
  | .local _ .vmem, ⟨32, _⟩ => ⟨S272x512, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_cst : Ref sig .tc := ⟨.hbm, 22, rfl⟩
abbrev main_v17 : Ref sig .tc := ⟨.hbm, 23, rfl⟩
abbrev main_v18 : Ref sig .tc := ⟨.hbm, 24, rfl⟩
abbrev main_cst_0 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_c : Ref sig .tc := ⟨.hbm, 37, rfl⟩
abbrev main_call0_v0 : Ref sig .tc := ⟨.hbm, 38, rfl⟩
abbrev main_call0_c : Ref sig .tc := ⟨.hbm, 39, rfl⟩
abbrev main_call0_v1 : Ref sig .tc := ⟨.hbm, 40, rfl⟩
abbrev main_call0_c_0 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_call0_c_1 : Ref sig .tc := ⟨.hbm, 45, rfl⟩
abbrev main_call0_v5 : Ref sig .tc := ⟨.hbm, 46, rfl⟩
abbrev main_call0_v6 : Ref sig .tc := ⟨.hbm, 47, rfl⟩
abbrev main_call0_c_2 : Ref sig .tc := ⟨.hbm, 48, rfl⟩
abbrev main_call0_v7 : Ref sig .tc := ⟨.hbm, 49, rfl⟩
abbrev main_call0_v8 : Ref sig .tc := ⟨.hbm, 50, rfl⟩
abbrev main_call0_c_3 : Ref sig .tc := ⟨.hbm, 51, rfl⟩
abbrev main_call0_v9 : Ref sig .tc := ⟨.hbm, 52, rfl⟩
abbrev main_call0_v10 : Ref sig .tc := ⟨.hbm, 53, rfl⟩
abbrev main_call0_v11 : Ref sig .tc := ⟨.hbm, 54, rfl⟩
abbrev main_call0_v12 : Ref sig .tc := ⟨.hbm, 55, rfl⟩
abbrev main_call0_v13 : Ref sig .tc := ⟨.hbm, 56, rfl⟩
abbrev main_call0_v14 : Ref sig .tc := ⟨.hbm, 57, rfl⟩
abbrev main_v30 : Ref sig .tc := ⟨.hbm, 58, rfl⟩
abbrev main_c_1 : Ref sig .tc := ⟨.hbm, 59, rfl⟩
abbrev main_call1_v0 : Ref sig .tc := ⟨.hbm, 60, rfl⟩
abbrev main_call1_c : Ref sig .tc := ⟨.hbm, 61, rfl⟩
abbrev main_call1_v1 : Ref sig .tc := ⟨.hbm, 62, rfl⟩
abbrev main_call1_c_0 : Ref sig .tc := ⟨.hbm, 63, rfl⟩
abbrev main_call1_v2 : Ref sig .tc := ⟨.hbm, 64, rfl⟩
abbrev main_call1_v3 : Ref sig .tc := ⟨.hbm, 65, rfl⟩
abbrev main_call1_v4 : Ref sig .tc := ⟨.hbm, 66, rfl⟩
abbrev main_call1_c_1 : Ref sig .tc := ⟨.hbm, 67, rfl⟩
abbrev main_call1_v5 : Ref sig .tc := ⟨.hbm, 68, rfl⟩
abbrev main_call1_v6 : Ref sig .tc := ⟨.hbm, 69, rfl⟩
abbrev main_call1_c_2 : Ref sig .tc := ⟨.hbm, 70, rfl⟩
abbrev main_call1_v7 : Ref sig .tc := ⟨.hbm, 71, rfl⟩
abbrev main_call1_v8 : Ref sig .tc := ⟨.hbm, 72, rfl⟩
abbrev main_call1_c_3 : Ref sig .tc := ⟨.hbm, 73, rfl⟩
abbrev main_call1_v9 : Ref sig .tc := ⟨.hbm, 74, rfl⟩
abbrev main_call1_v10 : Ref sig .tc := ⟨.hbm, 75, rfl⟩
abbrev main_call1_v11 : Ref sig .tc := ⟨.hbm, 76, rfl⟩
abbrev main_call1_v12 : Ref sig .tc := ⟨.hbm, 77, rfl⟩
abbrev main_call1_v13 : Ref sig .tc := ⟨.hbm, 78, rfl⟩
abbrev main_call1_v14 : Ref sig .tc := ⟨.hbm, 79, rfl⟩
abbrev main_v31 : Ref sig .tc := ⟨.hbm, 80, rfl⟩
abbrev main_v32 : Ref sig .tc := ⟨.hbm, 81, rfl⟩
abbrev main_c_2 : Ref sig .tc := ⟨.hbm, 82, rfl⟩
abbrev main_v33 : Ref sig .tc := ⟨.hbm, 83, rfl⟩
abbrev main_v34 : Ref sig .tc := ⟨.hbm, 84, rfl⟩
abbrev main_c_3 : Ref sig .tc := ⟨.hbm, 85, rfl⟩
abbrev main_v35 : Ref sig .tc := ⟨.hbm, 86, rfl⟩
abbrev main_v36 : Ref sig .tc := ⟨.hbm, 87, rfl⟩
abbrev main_c_4 : Ref sig .tc := ⟨.hbm, 88, rfl⟩
abbrev main_v37 : Ref sig .tc := ⟨.hbm, 89, rfl⟩
abbrev main_v38 : Ref sig .tc := ⟨.hbm, 90, rfl⟩
abbrev main_v39 : Ref sig .tc := ⟨.hbm, 91, rfl⟩
abbrev main_v40 : Ref sig .tc := ⟨.hbm, 92, rfl⟩
abbrev main_v41 : Ref sig .tc := ⟨.hbm, 93, rfl⟩
abbrev main_cst_5 : Ref sig .tc := ⟨.hbm, 94, rfl⟩
abbrev main_call2_v0 : Ref sig .tc := ⟨.hbm, 95, rfl⟩
abbrev main_call2_v1 : Ref sig .tc := ⟨.hbm, 96, rfl⟩
abbrev main_call2_v2 : Ref sig .tc := ⟨.hbm, 97, rfl⟩
abbrev main_v42 : Ref sig .tc := ⟨.hbm, 98, rfl⟩
abbrev main_v43 : Ref sig .tc := ⟨.hbm, 99, rfl⟩
abbrev main_c_6 : Ref sig .tc := ⟨.hbm, 100, rfl⟩
abbrev main_v44 : Ref sig .tc := ⟨.hbm, 101, rfl⟩
abbrev main_v45 : Ref sig .tc := ⟨.hbm, 102, rfl⟩
abbrev main_c_7 : Ref sig .tc := ⟨.hbm, 103, rfl⟩
abbrev main_v46 : Ref sig .tc := ⟨.hbm, 104, rfl⟩
abbrev main_v47 : Ref sig .tc := ⟨.hbm, 105, rfl⟩
abbrev main_c_8 : Ref sig .tc := ⟨.hbm, 106, rfl⟩
abbrev main_v48 : Ref sig .tc := ⟨.hbm, 107, rfl⟩
abbrev main_v49 : Ref sig .tc := ⟨.hbm, 108, rfl⟩
abbrev main_v50 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_cst_9 : Ref sig .tc := ⟨.hbm, 113, rfl⟩
abbrev main_call3_v0 : Ref sig .tc := ⟨.hbm, 114, rfl⟩
abbrev main_call3_v1 : Ref sig .tc := ⟨.hbm, 115, rfl⟩
abbrev main_call3_v2 : Ref sig .tc := ⟨.hbm, 116, rfl⟩
abbrev main_v54 : Ref sig .tc := ⟨.hbm, 117, rfl⟩
abbrev main_v55 : Ref sig .tc := ⟨.hbm, 118, rfl⟩
abbrev main_c_10 : Ref sig .tc := ⟨.hbm, 119, rfl⟩
abbrev main_v56 : Ref sig .tc := ⟨.hbm, 120, rfl⟩
abbrev main_v57 : Ref sig .tc := ⟨.hbm, 121, rfl⟩
abbrev main_v58 : Ref sig .tc := ⟨.hbm, 122, rfl⟩
abbrev main_c_11 : Ref sig .tc := ⟨.hbm, 123, rfl⟩
abbrev main_v59 : Ref sig .tc := ⟨.hbm, 124, rfl⟩
abbrev main_v60 : Ref sig .tc := ⟨.hbm, 125, rfl⟩
abbrev main_v61 : Ref sig .tc := ⟨.hbm, 126, rfl⟩
abbrev main_c_12 : Ref sig .tc := ⟨.hbm, 127, rfl⟩
abbrev main_v62 : Ref sig .tc := ⟨.hbm, 128, rfl⟩
abbrev main_v63 : Ref sig .tc := ⟨.hbm, 129, rfl⟩
abbrev main_c_13 : Ref sig .tc := ⟨.hbm, 130, rfl⟩
abbrev main_v64 : Ref sig .tc := ⟨.hbm, 131, rfl⟩
abbrev main_v65 : Ref sig .tc := ⟨.hbm, 132, rfl⟩
abbrev main_v66 : Ref sig .tc := ⟨.hbm, 133, rfl⟩
abbrev main_v67 : Ref sig .tc := ⟨.hbm, 134, rfl⟩
abbrev main_v68 : Ref sig .tc := ⟨.hbm, 135, rfl⟩
abbrev main_cst_14 : Ref sig .tc := ⟨.hbm, 136, rfl⟩
abbrev main_call4_v0 : Ref sig .tc := ⟨.hbm, 137, rfl⟩
abbrev main_call4_v1 : Ref sig .tc := ⟨.hbm, 138, rfl⟩
abbrev main_call4_v2 : Ref sig .tc := ⟨.hbm, 139, rfl⟩
abbrev main_v69 : Ref sig .tc := ⟨.hbm, 140, rfl⟩
abbrev main_v70 : Ref sig .tc := ⟨.hbm, 141, rfl⟩
abbrev main_v71 : Ref sig .tc := ⟨.hbm, 142, rfl⟩
abbrev main_v72_0 : Ref sig .tc := ⟨.hbm, 143, rfl⟩
abbrev main_v72_1 : Ref sig .tc := ⟨.hbm, 144, rfl⟩
abbrev main_v72_2 : Ref sig .tc := ⟨.hbm, 145, rfl⟩
abbrev main_v72_3 : Ref sig .tc := ⟨.hbm, 146, rfl⟩
abbrev main_v72_4 : Ref sig .tc := ⟨.hbm, 147, rfl⟩
abbrev main_v72_5 : Ref sig .tc := ⟨.hbm, 148, rfl⟩
abbrev main_v72_6 : Ref sig .tc := ⟨.hbm, 149, rfl⟩
abbrev main_v72_7 : Ref sig .tc := ⟨.hbm, 150, rfl⟩
abbrev main_v73 : Ref sig .tc := ⟨.hbm, 151, rfl⟩
abbrev main_v74 : Ref sig .tc := ⟨.hbm, 152, rfl⟩
abbrev main_v75 : Ref sig .tc := ⟨.hbm, 153, rfl⟩
abbrev main_v76 : Ref sig .tc := ⟨.hbm, 154, rfl⟩
abbrev main_v77 : Ref sig .tc := ⟨.hbm, 155, rfl⟩
abbrev main_v78 : Ref sig .tc := ⟨.hbm, 156, rfl⟩
abbrev main_v79 : Ref sig .tc := ⟨.hbm, 157, rfl⟩
abbrev main_v80 : Ref sig .tc := ⟨.hbm, 158, rfl⟩
abbrev main_v81 : Ref sig .tc := ⟨.hbm, 159, rfl⟩
abbrev main_v82 : Ref sig .tc := ⟨.hbm, 160, rfl⟩
abbrev main_v83 : Ref sig .tc := ⟨.hbm, 161, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_stg14_0 : Ref sig .tc := ⟨.vmem, 23, rfl⟩
abbrev cc0_stg14_1 : Ref sig .tc := ⟨.vmem, 24, rfl⟩
abbrev cc0_stg15_0 : Ref sig .tc := ⟨.vmem, 25, rfl⟩
abbrev cc0_stg15_1 : Ref sig .tc := ⟨.vmem, 26, rfl⟩
abbrev cc0_stg16_0 : Ref sig .tc := ⟨.vmem, 27, rfl⟩
abbrev cc0_stg16_1 : Ref sig .tc := ⟨.vmem, 28, rfl⟩
abbrev cc0_stg17_0 : Ref sig .tc := ⟨.vmem, 29, rfl⟩
abbrev cc0_stg17_1 : Ref sig .tc := ⟨.vmem, 30, rfl⟩
abbrev cc0_stg18_0 : Ref sig .tc := ⟨.vmem, 31, rfl⟩
abbrev cc0_scratch0 : Ref sig .tc := ⟨.vmem, 32, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14
abbrev cc0_sem9_0 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22
abbrev cc0_sem14_0 : DmaSem sig := 23
abbrev cc0_sem14_1 : DmaSem sig := 24
abbrev cc0_sem15_0 : DmaSem sig := 25
abbrev cc0_sem15_1 : DmaSem sig := 26
abbrev cc0_sem16_0 : DmaSem sig := 27
abbrev cc0_sem16_1 : DmaSem sig := 28
abbrev cc0_sem17_0 : DmaSem sig := 29
abbrev cc0_sem17_1 : DmaSem sig := 30
abbrev cc0_sem18_0 : DmaSem sig := 31

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_13 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_14 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_16 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_18 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1536x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S8x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x128 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S4x128x128 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x512x256 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x256 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x256 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S1x512x256 .bf16 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 2 → Memref sig .tc .vmem S8x256x128 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S1x8x512 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]

abbrev stage0_18 : Fin 1 → Memref sig .tc .vmem S16x512 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false]
-- ==== Reference3Ideal.lean ====
abbrev S1x16384x1024 : Shape := ⟨3, ![1, 16384, 1024]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S16384 : Shape := ⟨1, ![16384]⟩
abbrev S16384x1024 : Shape := ⟨2, ![16384, 1024]⟩
abbrev S1024 : Shape := ⟨1, ![1024]⟩
abbrev S1024x2048 : Shape := ⟨2, ![1024, 2048]⟩
abbrev S_ : Shape := ⟨0, ![]⟩
abbrev S16384x1 : Shape := ⟨2, ![16384, 1]⟩
abbrev S16384x2048 : Shape := ⟨2, ![16384, 2048]⟩
abbrev S8 : Shape := ⟨1, ![8]⟩
abbrev S1x8 : Shape := ⟨2, ![1, 8]⟩
abbrev S16384x8 : Shape := ⟨2, ![16384, 8]⟩
abbrev S16384x1x8 : Shape := ⟨3, ![16384, 1, 8]⟩
abbrev S16384x512 : Shape := ⟨2, ![16384, 512]⟩
abbrev S16384x8x64 : Shape := ⟨3, ![16384, 8, 64]⟩
abbrev S16384x8x8 : Shape := ⟨3, ![16384, 8, 8]⟩
abbrev S16384x8x48 : Shape := ⟨3, ![16384, 8, 48]⟩
abbrev S64x256x512 : Shape := ⟨3, ![64, 256, 512]⟩
abbrev S64x512x256 : Shape := ⟨3, ![64, 512, 256]⟩
abbrev S1x1x16384x8x64 : Shape := ⟨5, ![1, 1, 16384, 8, 64]⟩
abbrev S15x512 : Shape := ⟨2, ![15, 512]⟩
abbrev S1x1x15x512 : Shape := ⟨4, ![1, 1, 15, 512]⟩

abbrev nBuf : Space → Nat
  | .hbm => 88
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1024, .f32⟩
  | .hbm, ⟨2, _⟩ => ⟨S1x1024x2048, .f32⟩
  | .hbm, ⟨3, _⟩ => ⟨S1x4x128x128, .f32⟩
  | .hbm, ⟨4, _⟩ => ⟨S1x512, .f32⟩
  | .hbm, ⟨5, _⟩ => ⟨S16384, .i32⟩
  | .hbm, ⟨6, _⟩ => ⟨S16384x1024, .f32⟩
  | .hbm, ⟨7, _⟩ => ⟨S1024, .f32⟩
  | .hbm, ⟨8, _⟩ => ⟨S1024x2048, .f32⟩
  | .hbm, ⟨9, _⟩ => ⟨S16384x1024, .f32⟩
  | .hbm, ⟨10, _⟩ => ⟨S_, .f32⟩
  | .hbm, ⟨11, _⟩ => ⟨S16384, .f32⟩
  | .hbm, ⟨12, _⟩ => ⟨S16384x1, .f32⟩
  | .hbm, ⟨13, _⟩ => ⟨S_, .f32⟩
  | .hbm, ⟨14, _⟩ => ⟨S16384x1, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S1x1024, .f32⟩
  | .hbm, ⟨23, _⟩ => ⟨S16384x1024, .f32⟩
  | .hbm, ⟨24, _⟩ => ⟨S16384x1024, .f32⟩
  | .hbm, ⟨25, _⟩ => ⟨S16384x2048, .f32⟩
  | .hbm, ⟨26, _⟩ => ⟨S8, .f32⟩
  | .hbm, ⟨27, _⟩ => ⟨S8, .f32⟩
  | .hbm, ⟨28, _⟩ => ⟨S_, .f32⟩
  | .hbm, ⟨29, _⟩ => ⟨S8, .f32⟩
  | .hbm, ⟨30, _⟩ => ⟨S8, .f32⟩
  | .hbm, ⟨31, _⟩ => ⟨S_, .f32⟩
  | .hbm, ⟨32, _⟩ => ⟨S8, .f32⟩
  | .hbm, ⟨33, _⟩ => ⟨S8, .f32⟩
  | .hbm, ⟨34, _⟩ => ⟨S16384, .f32⟩
  | .hbm, ⟨35, _⟩ => ⟨S16384x1, .f32⟩
  | .hbm, ⟨36, _⟩ => ⟨S1x8, .f32⟩
  | .hbm, ⟨37, _⟩ => ⟨S16384x8, .f32⟩
  | .hbm, ⟨38, _⟩ => ⟨S16384x8, .f32⟩
  | .hbm, ⟨39, _⟩ => ⟨S16384x8, .f32⟩
  | .hbm, ⟨40, _⟩ => ⟨S16384x8, .f32⟩
  | .hbm, ⟨41, _⟩ => ⟨S16384x1x8, .f32⟩
  | .hbm, ⟨42, _⟩ => ⟨S16384x8, .f32⟩
  | .hbm, ⟨43, _⟩ => ⟨S16384x1x8, .f32⟩
  | .hbm, ⟨44, _⟩ => ⟨S16384x512, .f32⟩
  | .hbm, ⟨45, _⟩ => ⟨S16384x8x64, .f32⟩
  | .hbm, ⟨46, _⟩ => ⟨S16384x512, .f32⟩
  | .hbm, ⟨47, _⟩ => ⟨S16384x8x64, .f32⟩
  | .hbm, ⟨48, _⟩ => ⟨S16384x512, .f32⟩
  | .hbm, ⟨49, _⟩ => ⟨S16384x8x64, .f32⟩
  | .hbm, ⟨50, _⟩ => ⟨S16384x8x8, .f32⟩
  | .hbm, ⟨51, _⟩ => ⟨S16384x8x8, .f32⟩
  | .hbm, ⟨52, _⟩ => ⟨S16384x8x8, .f32⟩
  | .hbm, ⟨53, _⟩ => ⟨S16384x8x8, .f32⟩
  | .hbm, ⟨54, _⟩ => ⟨S16384x8x8, .f32⟩
  | .hbm, ⟨55, _⟩ => ⟨S16384x8x8, .f32⟩
  | .hbm, ⟨56, _⟩ => ⟨S16384x8x8, .f32⟩
  | .hbm, ⟨57, _⟩ => ⟨S16384x8x8, .f32⟩
  | .hbm, ⟨58, _⟩ => ⟨S16384x8x8, .f32⟩
  | .hbm, ⟨59, _⟩ => ⟨S16384x8x8, .f32⟩
  | .hbm, ⟨60, _⟩ => ⟨S16384x8x8, .f32⟩
  | .hbm, ⟨61, _⟩ => ⟨S16384x8x8, .f32⟩
  | .hbm, ⟨62, _⟩ => ⟨S16384x8x48, .f32⟩
  | .hbm, ⟨63, _⟩ => ⟨S16384x8x64, .f32⟩
  | .hbm, ⟨64, _⟩ => ⟨S16384x8x8, .f32⟩
  | .hbm, ⟨65, _⟩ => ⟨S16384x8x8, .f32⟩
  | .hbm, ⟨66, _⟩ => ⟨S16384x8x8, .f32⟩
  | .hbm, ⟨67, _⟩ => ⟨S16384x8x8, .f32⟩
  | .hbm, ⟨68, _⟩ => ⟨S16384x8x8, .f32⟩
  | .hbm, ⟨69, _⟩ => ⟨S16384x8x8, .f32⟩
  | .hbm, ⟨70, _⟩ => ⟨S16384x8x8, .f32⟩
  | .hbm, ⟨71, _⟩ => ⟨S16384x8x8, .f32⟩
  | .hbm, ⟨72, _⟩ => ⟨S16384x8x8, .f32⟩
  | .hbm, ⟨73, _⟩ => ⟨S16384x8x8, .f32⟩
  | .hbm, ⟨74, _⟩ => ⟨S16384x8x8, .f32⟩
  | .hbm, ⟨75, _⟩ => ⟨S16384x8x8, .f32⟩
  | .hbm, ⟨76, _⟩ => ⟨S16384x8x48, .f32⟩
  | .hbm, ⟨77, _⟩ => ⟨S16384x8x64, .f32⟩
  | .hbm, ⟨78, _⟩ => ⟨S16384x512, .f32⟩
  | .hbm, ⟨79, _⟩ => ⟨S_, .f32⟩
  | .hbm, ⟨80, _⟩ => ⟨S16384x8x64, .f32⟩
  | .hbm, ⟨81, _⟩ => ⟨S16384x8x64, .f32⟩
  | .hbm, ⟨82, _⟩ => ⟨S64x256x512, .f32⟩
  | .hbm, ⟨83, _⟩ => ⟨S64x512x256, .f32⟩
  | .hbm, ⟨84, _⟩ => ⟨S1x1x16384x8x64, .f32⟩
  | .hbm, ⟨85, _⟩ => ⟨S1x1x16384x8x64, .f32⟩
  | .hbm, ⟨86, _⟩ => ⟨S15x512, .f32⟩
  | .hbm, ⟨87, _⟩ => ⟨S1x1x15x512, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_cst_1 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_cst_4 : Ref sig .tc := ⟨.hbm, 79, rfl⟩
abbrev main_v69 : Ref sig .tc := ⟨.hbm, 80, rfl⟩
abbrev main_v70 : Ref sig .tc := ⟨.hbm, 81, rfl⟩
abbrev main_v71 : Ref sig .tc := ⟨.hbm, 82, rfl⟩
abbrev main_v72 : Ref sig .tc := ⟨.hbm, 83, rfl⟩
abbrev main_v73 : Ref sig .tc := ⟨.hbm, 84, rfl⟩
abbrev main_v74 : Ref sig .tc := ⟨.hbm, 85, rfl⟩
abbrev main_v75 : Ref sig .tc := ⟨.hbm, 86, rfl⟩
abbrev main_v76 : Ref sig .tc := ⟨.hbm, 87, rfl⟩

abbrev nD : Nat := 1
abbrev τ : Topo := Topo.v7x

variable {F : FTy → Type} [FloatOps F]
-- ==== Kernel4.lean ====
abbrev S32x8x1024 : Shape := ⟨3, ![32, 8, 1024]⟩
abbrev S1x32x15x512 : Shape := ⟨4, ![1, 32, 15, 512]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S1024 : Shape := ⟨1, ![1024]⟩
abbrev S1024x2048 : Shape := ⟨2, ![1024, 2048]⟩
abbrev S4x128x128 : Shape := ⟨3, ![4, 128, 128]⟩
abbrev S512 : Shape := ⟨1, ![512]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S256x1 : Shape := ⟨2, ![256, 1]⟩
abbrev S256x8 : Shape := ⟨2, ![256, 8]⟩
abbrev S128 : Shape := ⟨1, ![128]⟩
abbrev S1x128 : Shape := ⟨2, ![1, 128]⟩
abbrev S128x1 : Shape := ⟨2, ![128, 1]⟩
abbrev S256x128 : Shape := ⟨2, ![256, 128]⟩
abbrev S8x256 : Shape := ⟨2, ![8, 256]⟩
abbrev S32x15x512 : Shape := ⟨3, ![32, 15, 512]⟩
abbrev S32x16x512 : Shape := ⟨3, ![32, 16, 512]⟩
abbrev S256x1024 : Shape := ⟨2, ![256, 1024]⟩
abbrev S256x512 : Shape := ⟨2, ![256, 512]⟩
abbrev S32x24x512 : Shape := ⟨3, ![32, 24, 512]⟩
abbrev S256x2048 : Shape := ⟨2, ![256, 2048]⟩
abbrev S32x8x512 : Shape := ⟨3, ![32, 8, 512]⟩
abbrev S32x8x128 : Shape := ⟨3, ![32, 8, 128]⟩
abbrev S1x128x128 : Shape := ⟨3, ![1, 128, 128]⟩
abbrev S128x128 : Shape := ⟨2, ![128, 128]⟩
abbrev S32x8x8x64 : Shape := ⟨4, ![32, 8, 8, 64]⟩
abbrev S32x23x512 : Shape := ⟨3, ![32, 23, 512]⟩
abbrev S1x32x8x8x64 : Shape := ⟨5, ![1, 32, 8, 8, 64]⟩

abbrev nBuf : Space → Nat
  | .hbm => 162
  | .vmem => 15
  | .smem => 0
  | _ => 0

abbrev hbmTy0_0 (i : Nat) : BufTy := match i % 128 with
  | 0 => ⟨S32x8x1024, .f32⟩
  | 1 => ⟨S1x32x15x512, .f32⟩
  | 2 => ⟨S1x1024, .f32⟩
  | 3 => ⟨S1x1024x2048, .f32⟩
  | 4 => ⟨S1x4x128x128, .f32⟩
  | 5 => ⟨S1x512, .f32⟩
  | 6 => ⟨S1024, .f32⟩
  | 7 => ⟨S1x1024, .f32⟩
  | 8 => ⟨S1024x2048, .f32⟩
  | 9 => ⟨S1024x2048, .bf16⟩
  | 10 => ⟨S4x128x128, .f32⟩
  | 11 => ⟨S4x128x128, .bf16⟩
  | 12 => ⟨S512, .f32⟩
  | 13 => ⟨S1x512, .f32⟩
  | 14 => ⟨S8, .i32⟩
  | 15 => ⟨S_, .i32⟩
  | 16 => ⟨S8, .i32⟩
  | 17 => ⟨S8, .i32⟩
  | 18 => ⟨S1x8, .i32⟩
  | 19 => ⟨S32x8, .i32⟩
  | 20 => ⟨S256, .i32⟩
  | 21 => ⟨S8, .f32⟩
  | 22 => ⟨S8, .f32⟩
  | 23 => ⟨S_, .f32⟩
  | 24 => ⟨S8, .f32⟩
  | 25 => ⟨S8, .f32⟩
  | 26 => ⟨S_, .f32⟩
  | 27 => ⟨S8, .f32⟩
  | 28 => ⟨S8, .f32⟩
  | 29 => ⟨S256, .f32⟩
  | 30 => ⟨S256x1, .f32⟩
  | 31 => ⟨S1x8, .f32⟩
  | 32 => ⟨S256x8, .f32⟩
  | 33 => ⟨S256x8, .f32⟩
  | 34 => ⟨S256x8, .f32⟩
  | 35 => ⟨S256x8, .f32⟩
  | 36 => ⟨S256x8, .f32⟩
  | 37 => ⟨S128, .i32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S128, .i32⟩
  | 45 => ⟨S128, .i32⟩
  | 46 => ⟨S_, .i32⟩
  | 47 => ⟨S128, .i32⟩
  | 48 => ⟨S128, .i1⟩
  | 49 => ⟨S_, .i32⟩
  | 50 => ⟨S128, .i32⟩
  | 51 => ⟨S128, .i1⟩
  | 52 => ⟨S_, .i32⟩
  | 53 => ⟨S_, .i1⟩
  | 54 => ⟨S128, .i1⟩
  | 55 => ⟨S128, .i1⟩
  | 56 => ⟨S128, .i1⟩
  | 57 => ⟨S128, .i32⟩
  | 58 => ⟨S128, .i32⟩
  | 59 => ⟨S128, .i32⟩
  | 60 => ⟨S_, .i32⟩
  | 61 => ⟨S_, .i32⟩
  | 62 => ⟨S_, .i32⟩
  | 63 => ⟨S_, .i1⟩
  | 64 => ⟨S_, .i32⟩
  | 65 => ⟨S_, .i32⟩
  | 66 => ⟨S128, .i32⟩
  | 67 => ⟨S128, .i32⟩
  | 68 => ⟨S_, .i32⟩
  | 69 => ⟨S128, .i32⟩
  | 70 => ⟨S128, .i1⟩
  | 71 => ⟨S_, .i32⟩
  | 72 => ⟨S128, .i32⟩
  | 73 => ⟨S128, .i1⟩
  | 74 => ⟨S_, .i32⟩
  | 75 => ⟨S_, .i1⟩
  | 76 => ⟨S128, .i1⟩
  | 77 => ⟨S128, .i1⟩
  | 78 => ⟨S128, .i1⟩
  | 79 => ⟨S128, .i32⟩
  | 80 => ⟨S128, .i32⟩
  | 81 => ⟨S128, .i32⟩
  | 82 => ⟨S1x128, .i32⟩
  | 83 => ⟨S_, .i32⟩
  | 84 => ⟨S1x128, .i32⟩
  | 85 => ⟨S1x128, .i1⟩
  | 86 => ⟨S_, .i32⟩
  | 87 => ⟨S128, .i32⟩
  | 88 => ⟨S128, .i1⟩
  | 89 => ⟨S_, .i32⟩
  | 90 => ⟨S128, .i32⟩
  | 91 => ⟨S128, .i32⟩
  | 92 => ⟨S128, .i32⟩
  | 93 => ⟨S128x1, .i32⟩
  | 94 => ⟨S256x128, .f32⟩
  | 95 => ⟨S_, .f32⟩
  | 96 => ⟨S_, .f32⟩
  | 97 => ⟨S256x128, .i1⟩
  | 98 => ⟨S256x128, .f32⟩
  | 99 => ⟨S256x128, .f32⟩
  | 100 => ⟨S1x128, .i32⟩
  | 101 => ⟨S_, .i32⟩
  | 102 => ⟨S1x128, .i32⟩
  | 103 => ⟨S1x128, .i1⟩
  | 104 => ⟨S_, .i32⟩
  | 105 => ⟨S128, .i32⟩
  | 106 => ⟨S128, .i1⟩
  | 107 => ⟨S_, .i32⟩
  | 108 => ⟨S128, .i32⟩
  | 109 => ⟨S128, .i32⟩
  | 110 => ⟨S128, .i32⟩
  | 111 => ⟨S128x1, .i32⟩
  | 112 => ⟨S256x128, .f32⟩
  | 113 => ⟨S256x128, .f32⟩
  | 114 => ⟨S_, .f32⟩
  | 115 => ⟨S_, .f32⟩
  | 116 => ⟨S256x128, .i1⟩
  | 117 => ⟨S256x128, .f32⟩
  | 118 => ⟨S256x128, .f32⟩
  | 119 => ⟨S1x128, .i32⟩
  | 120 => ⟨S_, .i32⟩
  | 121 => ⟨S1x128, .i32⟩
  | 122 => ⟨S1x128, .i1⟩
  | 123 => ⟨S1x128, .i32⟩
  | 124 => ⟨S_, .i32⟩
  | 125 => ⟨S1x128, .i32⟩
  | 126 => ⟨S1x128, .i1⟩
  | 127 => ⟨S1x128, .i1⟩
  | _ => ⟨S32x8x1024, .f32⟩

abbrev hbmTy0_1 (i : Nat) : BufTy := match i % 128 with
  | 0 => ⟨S_, .i32⟩
  | 1 => ⟨S128, .i32⟩
  | 2 => ⟨S128, .i1⟩
  | 3 => ⟨S_, .i32⟩
  | 4 => ⟨S128, .i32⟩
  | 5 => ⟨S128, .i32⟩
  | 6 => ⟨S128, .i32⟩
  | 7 => ⟨S128x1, .i32⟩
  | 8 => ⟨S256x128, .f32⟩
  | 9 => ⟨S_, .f32⟩
  | 10 => ⟨S_, .f32⟩
  | 11 => ⟨S256x128, .i1⟩
  | 12 => ⟨S256x128, .f32⟩
  | 13 => ⟨S256x128, .f32⟩
  | 14 => ⟨S8x256, .f32⟩
  | 15 => ⟨S8x256, .f32⟩
  | 16 => ⟨S32x15x512, .f32⟩
  | 17 => ⟨S_, .i32⟩
  | 18 => ⟨S_, .f32⟩
  | 19 => ⟨S32x16x512, .f32⟩
  | 20 => ⟨S256x1024, .f32⟩
  | 21 => ⟨S256x512, .f32⟩
  | 22 => ⟨S256x512, .f32⟩
  | 23 => ⟨S256x512, .f32⟩
  | 24 => ⟨S256x512, .f32⟩
  | 25 => ⟨S256x512, .bf16⟩
  | 26 => ⟨S32x8x8x64, .f32⟩
  | 27 => ⟨S32x8x8x64, .f32⟩
  | 28 => ⟨S32x8x512, .f32⟩
  | 29 => ⟨S32x23x512, .f32⟩
  | 30 => ⟨S32x15x512, .f32⟩
  | 31 => ⟨S1x32x8x8x64, .f32⟩
  | 32 => ⟨S1x32x8x8x64, .f32⟩
  | 33 => ⟨S1x32x15x512, .f32⟩
  | _ => ⟨S32x8x1024, .f32⟩

abbrev hbmTy (i : Nat) : BufTy := match i / 128 with
  | 0 => hbmTy0_0 i
  | 1 => hbmTy0_1 i
  | _ => ⟨S32x8x1024, .f32⟩

abbrev bufTy : (tb : Table) → Fin (tcTables nBuf tb) → BufTy
  | .hbm, ⟨i, _⟩ => hbmTy i
  | .local _ .vmem, ⟨0, _⟩ => ⟨S256x1024, .f32⟩
  | .local _ .vmem, ⟨1, _⟩ => ⟨S1x1024, .f32⟩
  | .local _ .vmem, ⟨2, _⟩ => ⟨S1024x2048, .bf16⟩
  | .local _ .vmem, ⟨3, _⟩ => ⟨S256x128, .f32⟩
  | .local _ .vmem, ⟨4, _⟩ => ⟨S256x128, .f32⟩
  | .local _ .vmem, ⟨5, _⟩ => ⟨S256x128, .f32⟩
  | .local _ .vmem, ⟨6, _⟩ => ⟨S32x16x512, .f32⟩
  | .local _ .vmem, ⟨7, _⟩ => ⟨S4x128x128, .bf16⟩
  | .local _ .vmem, ⟨8, _⟩ => ⟨S1x512, .f32⟩
  | .local _ .vmem, ⟨9, _⟩ => ⟨S256x512, .f32⟩
  | .local _ .vmem, ⟨10, _⟩ => ⟨S256x512, .f32⟩
  | .local _ .vmem, ⟨11, _⟩ => ⟨S256x512, .f32⟩
  | .local _ .vmem, ⟨12, _⟩ => ⟨S256x512, .f32⟩
  | .local _ .vmem, ⟨13, _⟩ => ⟨S256x512, .bf16⟩
  | .local _ .vmem, ⟨14, _⟩ => ⟨S32x24x512, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_cst : Ref sig .tc := ⟨.hbm, 23, rfl⟩
abbrev main_v16 : Ref sig .tc := ⟨.hbm, 24, rfl⟩
abbrev main_v17 : Ref sig .tc := ⟨.hbm, 25, rfl⟩
abbrev main_cst_0 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_c_1 : Ref sig .tc := ⟨.hbm, 38, rfl⟩
abbrev main_call0_v0 : Ref sig .tc := ⟨.hbm, 39, rfl⟩
abbrev main_call0_c : Ref sig .tc := ⟨.hbm, 40, rfl⟩
abbrev main_call0_v1 : Ref sig .tc := ⟨.hbm, 41, rfl⟩
abbrev main_call0_c_0 : Ref sig .tc := ⟨.hbm, 42, rfl⟩
abbrev main_call0_v2 : Ref sig .tc := ⟨.hbm, 43, rfl⟩
abbrev main_call0_v3 : Ref sig .tc := ⟨.hbm, 44, rfl⟩
abbrev main_call0_v4 : Ref sig .tc := ⟨.hbm, 45, rfl⟩
abbrev main_call0_c_1 : Ref sig .tc := ⟨.hbm, 46, rfl⟩
abbrev main_call0_v5 : Ref sig .tc := ⟨.hbm, 47, rfl⟩
abbrev main_call0_v6 : Ref sig .tc := ⟨.hbm, 48, rfl⟩
abbrev main_call0_c_2 : Ref sig .tc := ⟨.hbm, 49, rfl⟩
abbrev main_call0_v7 : Ref sig .tc := ⟨.hbm, 50, rfl⟩
abbrev main_call0_v8 : Ref sig .tc := ⟨.hbm, 51, rfl⟩
abbrev main_call0_c_3 : Ref sig .tc := ⟨.hbm, 52, rfl⟩
abbrev main_call0_v9 : Ref sig .tc := ⟨.hbm, 53, rfl⟩
abbrev main_call0_v10 : Ref sig .tc := ⟨.hbm, 54, rfl⟩
abbrev main_call0_v11 : Ref sig .tc := ⟨.hbm, 55, rfl⟩
abbrev main_call0_v12 : Ref sig .tc := ⟨.hbm, 56, rfl⟩
abbrev main_call0_v13 : Ref sig .tc := ⟨.hbm, 57, rfl⟩
abbrev main_call0_v14 : Ref sig .tc := ⟨.hbm, 58, rfl⟩
abbrev main_v29 : Ref sig .tc := ⟨.hbm, 59, rfl⟩
abbrev main_c_2 : Ref sig .tc := ⟨.hbm, 60, rfl⟩
abbrev main_call1_v0 : Ref sig .tc := ⟨.hbm, 61, rfl⟩
abbrev main_call1_c : Ref sig .tc := ⟨.hbm, 62, rfl⟩
abbrev main_call1_v1 : Ref sig .tc := ⟨.hbm, 63, rfl⟩
abbrev main_call1_c_0 : Ref sig .tc := ⟨.hbm, 64, rfl⟩
abbrev main_call1_v2 : Ref sig .tc := ⟨.hbm, 65, rfl⟩
abbrev main_call1_v3 : Ref sig .tc := ⟨.hbm, 66, rfl⟩
abbrev main_call1_v4 : Ref sig .tc := ⟨.hbm, 67, rfl⟩
abbrev main_call1_c_1 : Ref sig .tc := ⟨.hbm, 68, rfl⟩
abbrev main_call1_v5 : Ref sig .tc := ⟨.hbm, 69, rfl⟩
abbrev main_call1_v6 : Ref sig .tc := ⟨.hbm, 70, rfl⟩
abbrev main_call1_c_2 : Ref sig .tc := ⟨.hbm, 71, rfl⟩
abbrev main_call1_v7 : Ref sig .tc := ⟨.hbm, 72, rfl⟩
abbrev main_call1_v8 : Ref sig .tc := ⟨.hbm, 73, rfl⟩
abbrev main_call1_c_3 : Ref sig .tc := ⟨.hbm, 74, rfl⟩
abbrev main_call1_v9 : Ref sig .tc := ⟨.hbm, 75, rfl⟩
abbrev main_call1_v10 : Ref sig .tc := ⟨.hbm, 76, rfl⟩
abbrev main_call1_v11 : Ref sig .tc := ⟨.hbm, 77, rfl⟩
abbrev main_call1_v12 : Ref sig .tc := ⟨.hbm, 78, rfl⟩
abbrev main_call1_v13 : Ref sig .tc := ⟨.hbm, 79, rfl⟩
abbrev main_call1_v14 : Ref sig .tc := ⟨.hbm, 80, rfl⟩
abbrev main_v30 : Ref sig .tc := ⟨.hbm, 81, rfl⟩
abbrev main_v31 : Ref sig .tc := ⟨.hbm, 82, rfl⟩
abbrev main_c_3 : Ref sig .tc := ⟨.hbm, 83, rfl⟩
abbrev main_v32 : Ref sig .tc := ⟨.hbm, 84, rfl⟩
abbrev main_v33 : Ref sig .tc := ⟨.hbm, 85, rfl⟩
abbrev main_c_4 : Ref sig .tc := ⟨.hbm, 86, rfl⟩
abbrev main_v34 : Ref sig .tc := ⟨.hbm, 87, rfl⟩
abbrev main_v35 : Ref sig .tc := ⟨.hbm, 88, rfl⟩
abbrev main_c_5 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_6 : Ref sig .tc := ⟨.hbm, 95, rfl⟩
abbrev main_call2_v0 : Ref sig .tc := ⟨.hbm, 96, rfl⟩
abbrev main_call2_v1 : Ref sig .tc := ⟨.hbm, 97, rfl⟩
abbrev main_call2_v2 : Ref sig .tc := ⟨.hbm, 98, rfl⟩
abbrev main_v41 : Ref sig .tc := ⟨.hbm, 99, rfl⟩
abbrev main_v42 : Ref sig .tc := ⟨.hbm, 100, rfl⟩
abbrev main_c_7 : Ref sig .tc := ⟨.hbm, 101, rfl⟩
abbrev main_v43 : Ref sig .tc := ⟨.hbm, 102, rfl⟩
abbrev main_v44 : Ref sig .tc := ⟨.hbm, 103, rfl⟩
abbrev main_c_8 : Ref sig .tc := ⟨.hbm, 104, rfl⟩
abbrev main_v45 : Ref sig .tc := ⟨.hbm, 105, rfl⟩
abbrev main_v46 : Ref sig .tc := ⟨.hbm, 106, rfl⟩
abbrev main_c_9 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_cst_10 : Ref sig .tc := ⟨.hbm, 114, rfl⟩
abbrev main_call3_v0 : Ref sig .tc := ⟨.hbm, 115, rfl⟩
abbrev main_call3_v1 : Ref sig .tc := ⟨.hbm, 116, rfl⟩
abbrev main_call3_v2 : Ref sig .tc := ⟨.hbm, 117, rfl⟩
abbrev main_v53 : Ref sig .tc := ⟨.hbm, 118, rfl⟩
abbrev main_v54 : Ref sig .tc := ⟨.hbm, 119, rfl⟩
abbrev main_c_11 : Ref sig .tc := ⟨.hbm, 120, rfl⟩
abbrev main_v55 : Ref sig .tc := ⟨.hbm, 121, rfl⟩
abbrev main_v56 : Ref sig .tc := ⟨.hbm, 122, rfl⟩
abbrev main_v57 : Ref sig .tc := ⟨.hbm, 123, rfl⟩
abbrev main_c_12 : Ref sig .tc := ⟨.hbm, 124, rfl⟩
abbrev main_v58 : Ref sig .tc := ⟨.hbm, 125, rfl⟩
abbrev main_v59 : Ref sig .tc := ⟨.hbm, 126, rfl⟩
abbrev main_v60 : Ref sig .tc := ⟨.hbm, 127, rfl⟩
abbrev main_c_13 : Ref sig .tc := ⟨.hbm, 128, rfl⟩
abbrev main_v61 : Ref sig .tc := ⟨.hbm, 129, rfl⟩
abbrev main_v62 : Ref sig .tc := ⟨.hbm, 130, rfl⟩
abbrev main_c_14 : Ref sig .tc := ⟨.hbm, 131, rfl⟩
abbrev main_v63 : Ref sig .tc := ⟨.hbm, 132, rfl⟩
abbrev main_v64 : Ref sig .tc := ⟨.hbm, 133, rfl⟩
abbrev main_v65 : Ref sig .tc := ⟨.hbm, 134, rfl⟩
abbrev main_v66 : Ref sig .tc := ⟨.hbm, 135, rfl⟩
abbrev main_v67 : Ref sig .tc := ⟨.hbm, 136, rfl⟩
abbrev main_cst_15 : Ref sig .tc := ⟨.hbm, 137, rfl⟩
abbrev main_call4_v0 : Ref sig .tc := ⟨.hbm, 138, rfl⟩
abbrev main_call4_v1 : Ref sig .tc := ⟨.hbm, 139, rfl⟩
abbrev main_call4_v2 : Ref sig .tc := ⟨.hbm, 140, rfl⟩
abbrev main_v68 : Ref sig .tc := ⟨.hbm, 141, rfl⟩
abbrev main_v69 : Ref sig .tc := ⟨.hbm, 142, rfl⟩
abbrev main_v70 : Ref sig .tc := ⟨.hbm, 143, rfl⟩
abbrev main_v71 : Ref sig .tc := ⟨.hbm, 144, rfl⟩
abbrev main_c_16 : Ref sig .tc := ⟨.hbm, 145, rfl⟩
abbrev main_call5_v0 : Ref sig .tc := ⟨.hbm, 146, rfl⟩
abbrev main_v72 : Ref sig .tc := ⟨.hbm, 147, rfl⟩
abbrev main_v73 : Ref sig .tc := ⟨.hbm, 148, rfl⟩
abbrev main_v74_0 : Ref sig .tc := ⟨.hbm, 149, rfl⟩
abbrev main_v74_1 : Ref sig .tc := ⟨.hbm, 150, rfl⟩
abbrev main_v74_2 : Ref sig .tc := ⟨.hbm, 151, rfl⟩
abbrev main_v74_3 : Ref sig .tc := ⟨.hbm, 152, rfl⟩
abbrev main_v74_4 : Ref sig .tc := ⟨.hbm, 153, rfl⟩
abbrev main_v75 : Ref sig .tc := ⟨.hbm, 154, rfl⟩
abbrev main_v76 : Ref sig .tc := ⟨.hbm, 155, rfl⟩
abbrev main_v77 : Ref sig .tc := ⟨.hbm, 156, rfl⟩
abbrev main_v78 : Ref sig .tc := ⟨.hbm, 157, rfl⟩
abbrev main_v79 : Ref sig .tc := ⟨.hbm, 158, rfl⟩
abbrev main_v80 : Ref sig .tc := ⟨.hbm, 159, rfl⟩
abbrev main_v81 : Ref sig .tc := ⟨.hbm, 160, rfl⟩
abbrev main_v82 : Ref sig .tc := ⟨.hbm, 161, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_scratch0 : Ref sig .tc := ⟨.vmem, 14, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S256x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16x512 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4x128x128 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S256x512 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S256x512 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S256x512 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S256x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S256x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference4Ideal.lean ====
abbrev S32x8x1024 : Shape := ⟨3, ![32, 8, 1024]⟩
abbrev S1x32x15x512 : Shape := ⟨4, ![1, 32, 15, 512]⟩
abbrev S1x1024 : Shape := ⟨2, ![1, 1024]⟩
abbrev S1x1024x2048 : Shape := ⟨3, ![1, 1024, 2048]⟩
abbrev S1x4x128x128 : Shape := ⟨4, ![1, 4, 128, 128]⟩
abbrev S1x512 : Shape := ⟨2, ![1, 512]⟩
abbrev S256x1024 : Shape := ⟨2, ![256, 1024]⟩
abbrev S8 : Shape := ⟨1, ![8]⟩
abbrev S_ : Shape := ⟨0, ![]⟩
abbrev S1x8 : Shape := ⟨2, ![1, 8]⟩
abbrev S32x8 : Shape := ⟨2, ![32, 8]⟩
abbrev S256 : Shape := ⟨1, ![256]⟩
abbrev S1024 : Shape := ⟨1, ![1024]⟩
abbrev S1024x2048 : Shape := ⟨2, ![1024, 2048]⟩
abbrev S256x1 : Shape := ⟨2, ![256, 1]⟩
abbrev S256x2048 : Shape := ⟨2, ![256, 2048]⟩
abbrev S256x8 : Shape := ⟨2, ![256, 8]⟩
abbrev S256x1x8 : Shape := ⟨3, ![256, 1, 8]⟩
abbrev S256x512 : Shape := ⟨2, ![256, 512]⟩
abbrev S256x8x64 : Shape := ⟨3, ![256, 8, 64]⟩
abbrev S256x8x8 : Shape := ⟨3, ![256, 8, 8]⟩
abbrev S256x8x48 : Shape := ⟨3, ![256, 8, 48]⟩
abbrev S1x32x8x8x64 : Shape := ⟨5, ![1, 32, 8, 8, 64]⟩
abbrev S32x15x512 : Shape := ⟨3, ![32, 15, 512]⟩
abbrev S32x8x512 : Shape := ⟨3, ![32, 8, 512]⟩
abbrev S32x23x512 : Shape := ⟨3, ![32, 23, 512]⟩

abbrev nBuf : Space → Nat
  | .hbm => 97
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S1x32x15x512, .f32⟩
  | .hbm, ⟨2, _⟩ => ⟨S1x1024, .f32⟩
  | .hbm, ⟨3, _⟩ => ⟨S1x1024x2048, .f32⟩
  | .hbm, ⟨4, _⟩ => ⟨S1x4x128x128, .f32⟩
  | .hbm, ⟨5, _⟩ => ⟨S1x512, .f32⟩
  | .hbm, ⟨6, _⟩ => ⟨S256x1024, .f32⟩
  | .hbm, ⟨7, _⟩ => ⟨S8, .i32⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S1x8, .i32⟩
  | .hbm, ⟨12, _⟩ => ⟨S32x8, .i32⟩
  | .hbm, ⟨13, _⟩ => ⟨S256, .i32⟩
  | .hbm, ⟨14, _⟩ => ⟨S1024, .f32⟩
  | .hbm, ⟨15, _⟩ => ⟨S1024x2048, .f32⟩
  | .hbm, ⟨16, _⟩ => ⟨S256x1024, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1024, .f32⟩
  | .hbm, ⟨28, _⟩ => ⟨S256x1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S256x2048, .f32⟩
  | .hbm, ⟨33, _⟩ => ⟨S8, .f32⟩
  | .hbm, ⟨34, _⟩ => ⟨S8, .f32⟩
  | .hbm, ⟨35, _⟩ => ⟨S_, .f32⟩
  | .hbm, ⟨36, _⟩ => ⟨S8, .f32⟩
  | .hbm, ⟨37, _⟩ => ⟨S8, .f32⟩
  | .hbm, ⟨38, _⟩ => ⟨S_, .f32⟩
  | .hbm, ⟨39, _⟩ => ⟨S8, .f32⟩
  | .hbm, ⟨40, _⟩ => ⟨S8, .f32⟩
  | .hbm, ⟨41, _⟩ => ⟨S256, .f32⟩
  | .hbm, ⟨42, _⟩ => ⟨S256x1, .f32⟩
  | .hbm, ⟨43, _⟩ => ⟨S1x8, .f32⟩
  | .hbm, ⟨44, _⟩ => ⟨S256x8, .f32⟩
  | .hbm, ⟨45, _⟩ => ⟨S256x8, .f32⟩
  | .hbm, ⟨46, _⟩ => ⟨S256x8, .f32⟩
  | .hbm, ⟨47, _⟩ => ⟨S256x8, .f32⟩
  | .hbm, ⟨48, _⟩ => ⟨S256x1x8, .f32⟩
  | .hbm, ⟨49, _⟩ => ⟨S256x8, .f32⟩
  | .hbm, ⟨50, _⟩ => ⟨S256x1x8, .f32⟩
  | .hbm, ⟨51, _⟩ => ⟨S256x512, .f32⟩
  | .hbm, ⟨52, _⟩ => ⟨S256x8x64, .f32⟩
  | .hbm, ⟨53, _⟩ => ⟨S256x512, .f32⟩
  | .hbm, ⟨54, _⟩ => ⟨S256x8x64, .f32⟩
  | .hbm, ⟨55, _⟩ => ⟨S256x512, .f32⟩
  | .hbm, ⟨56, _⟩ => ⟨S256x8x64, .f32⟩
  | .hbm, ⟨57, _⟩ => ⟨S256x8x8, .f32⟩
  | .hbm, ⟨58, _⟩ => ⟨S256x8x8, .f32⟩
  | .hbm, ⟨59, _⟩ => ⟨S256x8x8, .f32⟩
  | .hbm, ⟨60, _⟩ => ⟨S256x8x8, .f32⟩
  | .hbm, ⟨61, _⟩ => ⟨S256x8x8, .f32⟩
  | .hbm, ⟨62, _⟩ => ⟨S256x8x8, .f32⟩
  | .hbm, ⟨63, _⟩ => ⟨S256x8x8, .f32⟩
  | .hbm, ⟨64, _⟩ => ⟨S256x8x8, .f32⟩
  | .hbm, ⟨65, _⟩ => ⟨S256x8x8, .f32⟩
  | .hbm, ⟨66, _⟩ => ⟨S256x8x8, .f32⟩
  | .hbm, ⟨67, _⟩ => ⟨S256x8x8, .f32⟩
  | .hbm, ⟨68, _⟩ => ⟨S256x8x8, .f32⟩
  | .hbm, ⟨69, _⟩ => ⟨S256x8x48, .f32⟩
  | .hbm, ⟨70, _⟩ => ⟨S256x8x64, .f32⟩
  | .hbm, ⟨71, _⟩ => ⟨S256x8x8, .f32⟩
  | .hbm, ⟨72, _⟩ => ⟨S256x8x8, .f32⟩
  | .hbm, ⟨73, _⟩ => ⟨S256x8x8, .f32⟩
  | .hbm, ⟨74, _⟩ => ⟨S256x8x8, .f32⟩
  | .hbm, ⟨75, _⟩ => ⟨S256x8x8, .f32⟩
  | .hbm, ⟨76, _⟩ => ⟨S256x8x8, .f32⟩
  | .hbm, ⟨77, _⟩ => ⟨S256x8x8, .f32⟩
  | .hbm, ⟨78, _⟩ => ⟨S256x8x8, .f32⟩
  | .hbm, ⟨79, _⟩ => ⟨S256x8x8, .f32⟩
  | .hbm, ⟨80, _⟩ => ⟨S256x8x8, .f32⟩
  | .hbm, ⟨81, _⟩ => ⟨S256x8x8, .f32⟩
  | .hbm, ⟨82, _⟩ => ⟨S256x8x8, .f32⟩
  | .hbm, ⟨83, _⟩ => ⟨S256x8x48, .f32⟩
  | .hbm, ⟨84, _⟩ => ⟨S256x8x64, .f32⟩
  | .hbm, ⟨85, _⟩ => ⟨S256x512, .f32⟩
  | .hbm, ⟨86, _⟩ => ⟨S1x32x8x8x64, .f32⟩
  | .hbm, ⟨87, _⟩ => ⟨S1x32x8x8x64, .f32⟩
  | .hbm, ⟨88, _⟩ => ⟨S32x15x512, .f32⟩
  | .hbm, ⟨89, _⟩ => ⟨S32x8x512, .f32⟩
  | .hbm, ⟨90, _⟩ => ⟨S32x23x512, .f32⟩
  | .hbm, ⟨91, _⟩ => ⟨S_, .f32⟩
  | .hbm, ⟨92, _⟩ => ⟨S256x8x64, .f32⟩
  | .hbm, ⟨93, _⟩ => ⟨S256x8x64, .f32⟩
  | .hbm, ⟨94, _⟩ => ⟨S256x512, .f32⟩
  | .hbm, ⟨95, _⟩ => ⟨S32x15x512, .f32⟩
  | .hbm, ⟨96, _⟩ => ⟨S1x32x15x512, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst : Ref sig .tc := ⟨.hbm, 17, rfl⟩
abbrev main_v10 : Ref sig .tc := ⟨.hbm, 18, rfl⟩
abbrev main_v11 : Ref sig .tc := ⟨.hbm, 19, rfl⟩
abbrev main_cst_0 : Ref sig .tc := ⟨.hbm, 20, rfl⟩
abbrev main_v12 : Ref sig .tc := ⟨.hbm, 21, rfl⟩
abbrev main_v13 : Ref sig .tc := ⟨.hbm, 22, rfl⟩
abbrev main_cst_1 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_cst_3 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩
abbrev main_v69 : Ref sig .tc := ⟨.hbm, 81, rfl⟩
abbrev main_v70 : Ref sig .tc := ⟨.hbm, 82, rfl⟩
abbrev main_v71 : Ref sig .tc := ⟨.hbm, 83, rfl⟩
abbrev main_v72 : Ref sig .tc := ⟨.hbm, 84, rfl⟩
abbrev main_v73 : Ref sig .tc := ⟨.hbm, 85, rfl⟩
abbrev main_v74 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_cst_4 : Ref sig .tc := ⟨.hbm, 91, rfl⟩
abbrev main_v79 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩

abbrev nD : Nat := 1
abbrev τ : Topo := Topo.v7x

variable {F : FTy → Type} [FloatOps F]
-- ==== Kernel5.lean ====
abbrev S32x8x1024 : Shape := ⟨3, ![32, 8, 1024]⟩
abbrev S32x8x512 : Shape := ⟨3, ![32, 8, 512]⟩
abbrev S256x512 : Shape := ⟨2, ![256, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S1024x1024 : Shape := ⟨2, ![1024, 1024]⟩
abbrev S1024x4096 : Shape := ⟨2, ![1024, 4096]⟩
abbrev S4096x1024 : Shape := ⟨2, ![4096, 1024]⟩
abbrev S256x1024 : Shape := ⟨2, ![256, 1024]⟩
abbrev S512x1024 : Shape := ⟨2, ![512, 1024]⟩
abbrev S256 : Shape := ⟨1, ![256]⟩
abbrev S256x1 : Shape := ⟨2, ![256, 1]⟩

abbrev nBuf : Space → Nat
  | .hbm => 21
  | .vmem => 14
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S256x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S1024, .f32⟩
  | .hbm, ⟨9, _⟩ => ⟨S1x1024, .f32⟩
  | .hbm, ⟨10, _⟩ => ⟨S1024x1024, .f32⟩
  | .hbm, ⟨11, _⟩ => ⟨S1024x1024, .bf16⟩
  | .hbm, ⟨12, _⟩ => ⟨S1024x4096, .f32⟩
  | .hbm, ⟨13, _⟩ => ⟨S1024x4096, .bf16⟩
  | .hbm, ⟨14, _⟩ => ⟨S4096x1024, .f32⟩
  | .hbm, ⟨15, _⟩ => ⟨S4096x1024, .bf16⟩
  | .hbm, ⟨16, _⟩ => ⟨S1x1024, .f32⟩
  | .hbm, ⟨17, _⟩ => ⟨S256x1024, .f32⟩
  | .hbm, ⟨18, _⟩ => ⟨S256x512, .f32⟩
  | .hbm, ⟨19, _⟩ => ⟨S256x512, .bf16⟩
  | .hbm, ⟨20, _⟩ => ⟨S256x1024, .f32⟩
  | .local _ .vmem, ⟨0, _⟩ => ⟨S256x1024, .f32⟩
  | .local _ .vmem, ⟨1, _⟩ => ⟨S256x512, .bf16⟩
  | .local _ .vmem, ⟨2, _⟩ => ⟨S256x512, .bf16⟩
  | .local _ .vmem, ⟨3, _⟩ => ⟨S1024x1024, .bf16⟩
  | .local _ .vmem, ⟨4, _⟩ => ⟨S1x1024, .f32⟩
  | .local _ .vmem, ⟨5, _⟩ => ⟨S1024x1024, .bf16⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S256x1024, .f32⟩
  | .local _ .vmem, ⟨11, _⟩ => ⟨S256x1024, .f32⟩
  | .local _ .vmem, ⟨12, _⟩ => ⟨S256x1024, .bf16⟩
  | .local _ .vmem, ⟨13, _⟩ => ⟨S256x1024, .f32⟩
  | _, _ => ⟨S32x8x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg8_0 : Ref sig .tc := ⟨.vmem, 10, rfl⟩
abbrev cc0_scratch0 : Ref sig .tc := ⟨.vmem, 11, rfl⟩
abbrev cc0_scratch1 : Ref sig .tc := ⟨.vmem, 12, rfl⟩
abbrev cc0_scratch2 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem8_0 : DmaSem sig := 10

abbrev nD : Nat := 1
abbrev τ : Topo := Topo.v7x

variable {F : FTy → Type} [FloatOps F]

abbrev grid0 : Pipeline.Grid := ⟨2, ![1, 4], ![false, false]⟩

def k0_cond2 (i : grid0.Coords) : BitVec 1 :=
  let arg1 : BitVec 32 := BitVec.ofNat 32 (i 1).val
  let c3_i32 : BitVec 32 := 3#32
  let v19 : BitVec 1 := Scalar.cmpi .eq arg1 c3_i32
  let v20 : BitVec 32 := Scalar.extui v19
  let c0_i32_12 : BitVec 32 := 0#32
  let v21 : BitVec 1 := Scalar.cmpi .ne v20 c0_i32_12
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S256x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true, false]
-- ==== Reference5Ideal.lean ====
abbrev S32x8x1024 : Shape := ⟨3, ![32, 8, 1024]⟩
abbrev S32x8x512 : Shape := ⟨3, ![32, 8, 512]⟩
abbrev S256x512 : Shape := ⟨2, ![256, 512]⟩
abbrev S1x1024x1024 : Shape := ⟨3, ![1, 1024, 1024]⟩
abbrev S1x1024 : Shape := ⟨2, ![1, 1024]⟩
abbrev S1x1024x4096 : Shape := ⟨3, ![1, 1024, 4096]⟩
abbrev S1x4096x1024 : Shape := ⟨3, ![1, 4096, 1024]⟩
abbrev S1024 : Shape := ⟨1, ![1024]⟩
abbrev S256x1024 : Shape := ⟨2, ![256, 1024]⟩
abbrev S1024x1024 : Shape := ⟨2, ![1024, 1024]⟩
abbrev S_ : Shape := ⟨0, ![]⟩
abbrev S256 : Shape := ⟨1, ![256]⟩
abbrev S256x1 : Shape := ⟨2, ![256, 1]⟩
abbrev S1024x4096 : Shape := ⟨2, ![1024, 4096]⟩
abbrev S256x4096 : Shape := ⟨2, ![256, 4096]⟩
abbrev S4096x1024 : Shape := ⟨2, ![4096, 1024]⟩

abbrev nBuf : Space → Nat
  | .hbm => 57
  | .vmem => 0
  | .smem => 0
  | _ => 0

abbrev bufTy : (tb : Table) → Fin (tcTables nBuf tb) → BufTy
  | .hbm, ⟨0, _⟩ => ⟨S32x8x1024, .f32⟩
  | .hbm, ⟨1, _⟩ => ⟨S32x8x512, .f32⟩
  | .hbm, ⟨2, _⟩ => ⟨S256x512, .bf16⟩
  | .hbm, ⟨3, _⟩ => ⟨S1x1024x1024, .f32⟩
  | .hbm, ⟨4, _⟩ => ⟨S1x1024, .f32⟩
  | .hbm, ⟨5, _⟩ => ⟨S1x1024x4096, .f32⟩
  | .hbm, ⟨6, _⟩ => ⟨S1x4096x1024, .f32⟩
  | .hbm, ⟨7, _⟩ => ⟨S1024, .f32⟩
  | .hbm, ⟨8, _⟩ => ⟨S256x1024, .f32⟩
  | .hbm, ⟨9, _⟩ => ⟨S256x512, .f32⟩
  | .hbm, ⟨10, _⟩ => ⟨S256x512, .f32⟩
  | .hbm, ⟨11, _⟩ => ⟨S256x1024, .f32⟩
  | .hbm, ⟨12, _⟩ => ⟨S1024x1024, .f32⟩
  | .hbm, ⟨13, _⟩ => ⟨S256x1024, .f32⟩
  | .hbm, ⟨14, _⟩ => ⟨S256x1024, .f32⟩
  | .hbm, ⟨15, _⟩ => ⟨S1024, .f32⟩
  | .hbm, ⟨16, _⟩ => ⟨S256x1024, .f32⟩
  | .hbm, ⟨17, _⟩ => ⟨S_, .f32⟩
  | .hbm, ⟨18, _⟩ => ⟨S256, .f32⟩
  | .hbm, ⟨19, _⟩ => ⟨S256x1, .f32⟩
  | .hbm, ⟨20, _⟩ => ⟨S_, .f32⟩
  | .hbm, ⟨21, _⟩ => ⟨S256x1, .f32⟩
  | .hbm, ⟨22, _⟩ => ⟨S256x1, .f32⟩
  | .hbm, ⟨23, _⟩ => ⟨S_, .f32⟩
  | .hbm, ⟨24, _⟩ => ⟨S256x1, .f32⟩
  | .hbm, ⟨25, _⟩ => ⟨S256x1, .f32⟩
  | .hbm, ⟨26, _⟩ => ⟨S256x1, .f32⟩
  | .hbm, ⟨27, _⟩ => ⟨S256x1024, .f32⟩
  | .hbm, ⟨28, _⟩ => ⟨S256x1024, .f32⟩
  | .hbm, ⟨29, _⟩ => ⟨S1x1024, .f32⟩
  | .hbm, ⟨30, _⟩ => ⟨S256x1024, .f32⟩
  | .hbm, ⟨31, _⟩ => ⟨S256x1024, .f32⟩
  | .hbm, ⟨32, _⟩ => ⟨S1024x4096, .f32⟩
  | .hbm, ⟨33, _⟩ => ⟨S256x4096, .f32⟩
  | .hbm, ⟨34, _⟩ => ⟨S_, .f32⟩
  | .hbm, ⟨35, _⟩ => ⟨S256x4096, .f32⟩
  | .hbm, ⟨36, _⟩ => ⟨S256x4096, .f32⟩
  | .hbm, ⟨37, _⟩ => ⟨S256x4096, .f32⟩
  | .hbm, ⟨38, _⟩ => ⟨S4096x1024, .f32⟩
  | .hbm, ⟨39, _⟩ => ⟨S256x1024, .f32⟩
  | .hbm, ⟨40, _⟩ => ⟨S256x1024, .f32⟩
  | .hbm, ⟨41, _⟩ => ⟨S256x1024, .f32⟩
  | .hbm, ⟨42, _⟩ => ⟨S_, .f32⟩
  | .hbm, ⟨43, _⟩ => ⟨S256, .f32⟩
  | .hbm, ⟨44, _⟩ => ⟨S256x1, .f32⟩
  | .hbm, ⟨45, _⟩ => ⟨S_, .f32⟩
  | .hbm, ⟨46, _⟩ => ⟨S256x1, .f32⟩
  | .hbm, ⟨47, _⟩ => ⟨S256x1, .f32⟩
  | .hbm, ⟨48, _⟩ => ⟨S_, .f32⟩
  | .hbm, ⟨49, _⟩ => ⟨S256x1, .f32⟩
  | .hbm, ⟨50, _⟩ => ⟨S256x1, .f32⟩
  | .hbm, ⟨51, _⟩ => ⟨S256x1, .f32⟩
  | .hbm, ⟨52, _⟩ => ⟨S256x1024, .f32⟩
  | .hbm, ⟨53, _⟩ => ⟨S256x1024, .f32⟩
  | .hbm, ⟨54, _⟩ => ⟨S1x1024, .f32⟩
  | .hbm, ⟨55, _⟩ => ⟨S256x1024, .f32⟩
  | .hbm, ⟨56, _⟩ => ⟨S256x1024, .f32⟩
  | _, _ => ⟨S32x8x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_cst_0 : Ref sig .tc := ⟨.hbm, 20, rfl⟩
abbrev main_v11 : Ref sig .tc := ⟨.hbm, 21, rfl⟩
abbrev main_v12 : Ref sig .tc := ⟨.hbm, 22, rfl⟩
abbrev main_cst_1 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_call0_cst : Ref sig .tc := ⟨.hbm, 34, rfl⟩
abbrev main_call0_v0 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_2 : Ref sig .tc := ⟨.hbm, 42, rfl⟩
abbrev main_v29 : Ref sig .tc := ⟨.hbm, 43, rfl⟩
abbrev main_v30 : Ref sig .tc := ⟨.hbm, 44, rfl⟩
abbrev main_cst_3 : Ref sig .tc := ⟨.hbm, 45, rfl⟩
abbrev main_v31 : Ref sig .tc := ⟨.hbm, 46, rfl⟩
abbrev main_v32 : Ref sig .tc := ⟨.hbm, 47, rfl⟩
abbrev main_cst_4 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩

abbrev nD : Nat := 1
abbrev τ : Topo := Topo.v7x

variable {F : FTy → Type} [FloatOps F]
-- ==== Proof.MlpBlock.lean ====
/-
  What one grid point of the call out_mlp leaves: its three scratch buffers and its output block, as the body's own
  values of the blocks it reads.
-/
module

public import proofs.«01_k».proof.Proof.Gen.Kernel2Ideal.Value
public import Idealize.ShloMosaic.Lib.Tactic

@[expose] public section

noncomputable section

namespace Cert.Kernel2Ideal.Block

open Cert.Kernel2Ideal Cert.Kernel2Ideal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- A buffer filled with a vector reads back as it. -/
theorem read_sc0 (x : Vec F S512x1024 .f32) :
    View.read (Elt F) (View.whole cc0_scratch0) ((Memref.isWhole_whole cc0_scratch0).unread x) = x :=
  (Memref.isWhole_whole cc0_scratch0).read_unread x
theorem read_sc1 (x : Vec F S512x1024 .bf16) :
    View.read (Elt F) (View.whole cc0_scratch1) ((Memref.isWhole_whole cc0_scratch1).unread x) = x :=
  (Memref.isWhole_whole cc0_scratch1).read_unread x
theorem read_sc2 (x : Vec F S512x1024 .f32) :
    View.read (Elt F) (View.whole cc0_scratch2) ((Memref.isWhole_whole cc0_scratch2).unread x) = x :=
  (Memref.isWhole_whole cc0_scratch2).read_unread x

/-- The state of the four buffers: output block, residual stream, its normalized form, accumulator. -/
abbrev St : Type := Vec F S512x1024 .f32 × Vec F S512x1024 .f32 × Vec F S512x1024 .bf16 × Vec F S512x1024 .f32

/-- The last step over the hidden blocks writes the output block. -/
theorem C_out (c : Dev nD) (t : Fin cfg0.N) (h0 : ¬t.val % 4 = 0) (h1 : t.val % 4 = 3) (acc) :
    (Value.stAt0 m c t.val t.isLt acc).1
      = k0_pay3 acc.2.1 (k0_pay2 acc.2.2.1 (iblk m c 5 t) acc.2.2.2 (iblk m c 6 t)) (iblk m c 7 t) := by
  rw [Value.stAt0_C m c t acc h0 h1]
  dsimp only
  unfold out0_C_8
  rw [View.read_writes_eq_canon _ _ _ (fun y => cover0_C_8 ..)]
  unfold kernelRun0_C
  dsimp only
  sl_unfold_words
  simp only [View.canon_unit_zero (S := S512x1024) hz, View.readCov_unit_zero (S := S512x1024) _ hz,
    View.readAt_eq_ld, Memref.IsWhole.read_unread, View.ld_unit_zero (S := S512x1024) hz,
    View.ld_unit_zero (S := S1024x1024) hz, View.ld_unit_zero (S := S1x1024) hz]
  rw [read_sc0, read_sc1, read_sc2]

/-- A step in the middle adds its hidden block's part to the accumulator. -/
theorem B_acc (c : Dev nD) (t : Fin cfg0.N) (h0 : ¬t.val % 4 = 0) (h1 : ¬t.val % 4 = 3) (acc) :
    (Value.stAt0 m c t.val t.isLt acc).2 = (acc.2.1, acc.2.2.1,
      k0_pay2 acc.2.2.1 (iblk m c 5 t) acc.2.2.2 (iblk m c 6 t)) := by
  rw [Value.stAt0_B m c t acc h0 h1]
  dsimp only
  refine Prod.ext rfl (Prod.ext rfl ?_)
  dsimp only
  unfold sout0_B_2
  rw [View.read_writes_eq_canon _ _ _ (fun y => scover0_B_2 ..)]
  unfold kernelRun0_B
  dsimp only
  sl_unfold_words
  simp only [View.canon_unit_zero (S := S512x1024) hz, View.readAt_eq_ld, Memref.IsWhole.read_unread,
    View.ld_unit_zero (S := S512x1024) hz, View.ld_unit_zero (S := S1024x1024) hz]
  rw [read_sc1, read_sc2]

/-- The upper and the lower half of the output projection's weights. -/
abbrev woA (w : Vec F S1024x1024 .bf16) : Vec F S512x1024 .bf16 :=
  View.ld w (Rect.unit ![0, 0] ![512, 1024] inb_S1024x1024_S512x1024_0_0)
abbrev woB (w : Vec F S1024x1024 .bf16) : Vec F S512x1024 .bf16 :=
  View.ld w (Rect.unit ![512, 0] ![512, 1024] inb_S1024x1024_S512x1024_512_0)

/-- The first step's three buffers. -/
theorem A_x1 (c : Dev nD) (t : Fin cfg0.N) (h0 : t.val % 4 = 0) (h1 : ¬t.val % 4 = 3) (acc) :
    (Value.stAt0 m c t.val t.isLt acc).2.1
      = k0_pay5 (iblk m c 0 t) (iblk m c 1 t) (woA (iblk m c 3 t)) (iblk m c 2 t) (woB (iblk m c 3 t)) := by
  rw [Value.stAt0_A m c t acc h0 h1]
  dsimp only
  unfold sout0_A_0
  rw [View.read_writes_eq_canon _ _ _ (fun y => scover0_A_0 ..)]
  unfold kernelRun0_A
  dsimp only
  sl_unfold_words
  simp only [View.canon_cons_unit_zero (S := S512x1024) hz, View.canon_unit_zero (S := S512x1024) hz,
    View.readCov_unit_zero (S := S512x1024) _ hz, View.readAt_eq_ld, Memref.IsWhole.read_unread,
    View.ld_unit_zero (S := S512x1024) hz, View.ld_unit_zero (S := S1024x1024) hz,
    View.ld_unit_zero (S := S1x1024) hz, View.ld_unit_zero (S := S512x512) hz]

theorem A_hn (c : Dev nD) (t : Fin cfg0.N) (h0 : t.val % 4 = 0) (h1 : ¬t.val % 4 = 3) (acc) :
    (Value.stAt0 m c t.val t.isLt acc).2.2.1
      = k0_pay6 (iblk m c 0 t) (iblk m c 1 t) (woA (iblk m c 3 t)) (iblk m c 2 t) (woB (iblk m c 3 t))
          (iblk m c 4 t) := by
  rw [Value.stAt0_A m c t acc h0 h1]
  dsimp only
  unfold sout0_A_1
  rw [View.read_writes_eq_canon _ _ _ (fun y => scover0_A_1 ..)]
  unfold kernelRun0_A
  dsimp only
  sl_unfold_words
  simp only [View.canon_cons_unit_zero (S := S512x1024) hz, View.canon_unit_zero (S := S512x1024) hz,
    View.readCov_unit_zero (S := S512x1024) _ hz, View.readAt_eq_ld, Memref.IsWhole.read_unread,
    View.ld_unit_zero (S := S512x1024) hz, View.ld_unit_zero (S := S1024x1024) hz,
    View.ld_unit_zero (S := S1x1024) hz, View.ld_unit_zero (S := S512x512) hz]

theorem A_acc (c : Dev nD) (t : Fin cfg0.N) (h0 : t.val % 4 = 0) (h1 : ¬t.val % 4 = 3) (acc) :
    (Value.stAt0 m c t.val t.isLt acc).2.2.2
      = k0_pay2 (k0_pay6 (iblk m c 0 t) (iblk m c 1 t) (woA (iblk m c 3 t)) (iblk m c 2 t) (woB (iblk m c 3 t))
          (iblk m c 4 t)) (iblk m c 5 t) (k0_pay1 k0_pay7) (iblk m c 6 t) := by
  rw [Value.stAt0_A m c t acc h0 h1]
  dsimp only
  unfold sout0_A_2
  rw [View.read_writes_eq_canon _ _ _ (fun y => scover0_A_2 ..)]
  unfold kernelRun0_A
  dsimp only
  sl_unfold_words
  simp only [View.canon_cons_unit_zero (S := S512x1024) hz, View.canon_unit_zero (S := S512x1024) hz,
    View.readCov_unit_zero (S := S512x1024) _ hz, View.readAt_eq_ld, Memref.IsWhole.read_unread,
    View.ld_unit_zero (S := S512x1024) hz, View.ld_unit_zero (S := S1024x1024) hz,
    View.ld_unit_zero (S := S1x1024) hz, View.ld_unit_zero (S := S512x512) hz]

/-- The output block after the four steps of one block of rows. -/
theorem out_eq (c : Dev nD) (b : ℕ) (h : 4 * b + 3 < cfg0.N) :
    (outsAt0 m c (4 * b + 3) h).1
      = k0_pay3
          (k0_pay5 (iblk m c 0 ⟨4 * b, by omega⟩) (iblk m c 1 ⟨4 * b, by omega⟩) (woA (iblk m c 3 ⟨4 * b, by omega⟩))
            (iblk m c 2 ⟨4 * b, by omega⟩) (woB (iblk m c 3 ⟨4 * b, by omega⟩)))
          (let hn := k0_pay6 (iblk m c 0 ⟨4 * b, by omega⟩) (iblk m c 1 ⟨4 * b, by omega⟩)
            (woA (iblk m c 3 ⟨4 * b, by omega⟩)) (iblk m c 2 ⟨4 * b, by omega⟩) (woB (iblk m c 3 ⟨4 * b, by omega⟩))
            (iblk m c 4 ⟨4 * b, by omega⟩)
           k0_pay2 hn (iblk m c 5 ⟨4 * b + 3, h⟩)
            (k0_pay2 hn (iblk m c 5 ⟨4 * b + 2, by omega⟩)
              (k0_pay2 hn (iblk m c 5 ⟨4 * b + 1, by omega⟩)
                (k0_pay2 hn (iblk m c 5 ⟨4 * b, by omega⟩) (k0_pay1 k0_pay7) (iblk m c 6 ⟨4 * b, by omega⟩))
                (iblk m c 6 ⟨4 * b + 1, by omega⟩))
              (iblk m c 6 ⟨4 * b + 2, by omega⟩))
            (iblk m c 6 ⟨4 * b + 3, h⟩))
          (iblk m c 7 ⟨4 * b + 3, h⟩) := by
  have e0 : outsAt0 m c (4 * b) (by omega) = Value.stAt0 m c (4 * b) (by omega) Value.junk0 := by
    rw [outsAt0_A m c ⟨4 * b, by omega⟩ (by dsimp only; omega) (by dsimp only; omega),
      Value.stAt0_A m c ⟨4 * b, by omega⟩ _ (by dsimp only; omega) (by dsimp only; omega)]
  rw [Value.outsAt0_succ, Value.outsAt0_succ, Value.outsAt0_succ, e0]
  rw [C_out m c ⟨4 * b + 3, h⟩ (by dsimp only; omega) (by dsimp only; omega)]
  rw [B_acc m c ⟨4 * b + 2, by omega⟩ (by dsimp only; omega) (by dsimp only; omega)]
  rw [B_acc m c ⟨4 * b + 1, by omega⟩ (by dsimp only; omega) (by dsimp only; omega)]
  rw [A_acc m c ⟨4 * b, by omega⟩ (by dsimp only; omega) (by dsimp only; omega),
    A_hn m c ⟨4 * b, by omega⟩ (by dsimp only; omega) (by dsimp only; omega),
    A_x1 m c ⟨4 * b, by omega⟩ (by dsimp only; omega) (by dsimp only; omega)]

end Cert.Kernel2Ideal.Block
-- ==== Proof.MlpSpec.lean ====
/-
What the output layer computes, one row (token) at a time: the residual stream plus the output projection of the
attention and pooling halves, a root-mean-square norm, the squared-ReLU MLP, and the final norm.
-/
module
public import Idealize.ShloMosaic.Lib.Pointwise
@[expose] public section
noncomputable section
namespace Cert.OutMlp
open Idealize Idealize.ShloMosaic

/-- The row `x` plus the row `(a, p)` of 512 + 512 entries times the matrix `wo`. -/
def resid (x : Fin 1024 → EReal) (a p : Fin 512 → EReal) (wo : Fin 1024 → Fin 1024 → EReal) (d : Fin 1024) : EReal :=
  x d + ∑ k : Fin 512, a k * wo ⟨k.val, by omega⟩ d + ∑ k : Fin 512, p k * wo ⟨512 + k.val, by omega⟩ d

/-- The root-mean-square norm of a row of 1024 entries, times the gain `g`. The two literals are 1024 and the epsilon. -/
def rmsNorm (x g : Fin 1024 → EReal) (d : Fin 1024) : EReal :=
  x d * Ideal.rsqrt (Ideal.div (∑ k : Fin 1024, x k * x k) (Ideal.ofBits .f32 1149239296#32)
    + Ideal.ofBits .f32 897988541#32) * g d

/-- One hidden unit: the rectified product of the row with a column `u` of the up projection. -/
def hid (h : Fin 1024 → EReal) (u : Fin 1024 → EReal) : EReal := max (∑ k : Fin 1024, h k * u k) 0

/-- The whole layer on a row. -/
def layer (x : Fin 1024 → EReal) (a p : Fin 512 → EReal) (wo : Fin 1024 → Fin 1024 → EReal) (g : Fin 1024 → EReal)
    (up : Fin 1024 → Fin 4096 → EReal) (dn : Fin 4096 → Fin 1024 → EReal) (gf : Fin 1024 → EReal) : Fin 1024 → EReal :=
  rmsNorm (fun d => resid x a p wo d
    + ∑ f : Fin 4096, hid (rmsNorm (resid x a p wo) g) (fun k => up k f) * hid (rmsNorm (resid x a p wo) g) (fun k => up k f)
        * dn f d) gf

/-- A sum over 4096 as four sums over 1024, added to zero one after the other. -/
theorem sum_quarters (g : Fin 4096 → EReal) :
    (((0 + ∑ f : Fin 1024, g ⟨f.val, by omega⟩) + ∑ f : Fin 1024, g ⟨1024 + f.val, by omega⟩)
      + ∑ f : Fin 1024, g ⟨2048 + f.val, by omega⟩) + ∑ f : Fin 1024, g ⟨3072 + f.val, by omega⟩ = ∑ f, g f := by
  rw [Fin.sum_univ_add (a := 3072) (b := 1024) g]
  rw [Fin.sum_univ_add (a := 2048) (b := 1024) (fun i => g (Fin.castAdd 1024 i))]
  rw [Fin.sum_univ_add (a := 1024) (b := 1024) (fun i => g (Fin.castAdd 1024 (Fin.castAdd 1024 i)))]
  rw [zero_add]
  rfl

/-- A sum over 1024 as two sums over 512. -/
theorem sum_halves (g : Fin 1024 → EReal) :
    (∑ f : Fin 512, g ⟨f.val, by omega⟩) + ∑ f : Fin 512, g ⟨512 + f.val, by omega⟩ = ∑ f, g f := by
  rw [Fin.sum_univ_add (a := 512) (b := 512) g]
  rfl

end Cert.OutMlp
-- ==== Proof.MlpPoint.lean ====
/-
The output layer's kernel at one entry: what each step's arithmetic is at a row and a column, and the block of rows
that the four steps leave, row by row the specification's layer.
-/
module
public import proofs.«01_k».proof.Proof.MlpBlock
public import proofs.«01_k».proof.Proof.MlpSpec
public import Idealize.ShloMosaic.Lib.Pointwise
public import Idealize.ShloMosaic.Lib.Pipeline.ValueKit
@[expose] public section
noncomputable section
set_option maxRecDepth 16384
namespace Cert.Kernel2Ideal.Block
open Cert.Kernel2Ideal Cert.Kernel2Ideal.Gen Idealize.ShloMosaic Idealize.ShloMosaic.TcCoe Idealize.SL.Sem
open Cert.OutMlp

theorem pay5_apply (x a wo p) (r : Fin 512) (d : Fin 1024) :
    k0_pay5 (F := Ideal) x a (woA wo) p (woB wo) (ix2 r d)
      = resid (fun d => x (ix2 r d)) (fun k => a (ix2 r k)) (fun k => p (ix2 r k)) (fun k d => wo (ix2 k d)) d := by
  unfold resid
  pointwise [k0_pay5, k0_pay4, woA, woB]

theorem pay6_apply (x a wo p g) (r : Fin 512) (d : Fin 1024) :
    k0_pay6 (F := Ideal) x a (woA wo) p (woB wo) g (ix2 r d)
      = rmsNorm (resid (fun d => x (ix2 r d)) (fun k => a (ix2 r k)) (fun k => p (ix2 r k)) (fun k d => wo (ix2 k d)))
          (fun d => g (ix2 0 d)) d := by
  unfold rmsNorm resid
  pointwise [k0_pay6, k0_pay5, k0_pay4, woA, woB]

theorem pay2_apply (hn u a w) (r : Fin 512) (d : Fin 1024) :
    k0_pay2 (F := Ideal) hn u a w (ix2 r d)
      = a (ix2 r d) + ∑ f : Fin 1024, hid (fun k => hn (ix2 r k)) (fun k => u (ix2 k f))
          * hid (fun k => hn (ix2 r k)) (fun k => u (ix2 k f)) * w (ix2 f d) := by
  unfold hid
  pointwise [k0_pay2]

theorem pay3_apply (x a g) (r : Fin 512) (d : Fin 1024) :
    k0_pay3 (F := Ideal) x a g (ix2 r d)
      = rmsNorm (fun d => x (ix2 r d) + a (ix2 r d)) (fun d => g (ix2 0 d)) d := by
  unfold rmsNorm
  pointwise [k0_pay3]

theorem pay1_apply (r : Fin 512) (d : Fin 1024) : k0_pay1 (F := Ideal) k0_pay7 (ix2 r d) = 0 := by
  pointwise [k0_pay1, k0_pay7]

end Cert.Kernel2Ideal.Block
-- ==== Proof.MlpValue.lean ====
/-
The output layer's result array: entry by entry the specification's layer on that row of the arguments.
-/
module
public import proofs.«01_k».proof.Proof.MlpPoint
@[expose] public section
noncomputable section
set_option maxRecDepth 16384
namespace Cert.Kernel2Ideal.Block
open Cert.Kernel2Ideal Cert.Kernel2Ideal.Gen Idealize.ShloMosaic Idealize.ShloMosaic.TcCoe Idealize.SL.Sem
open Cert.OutMlp
variable (m : (ℓ : Loc nD τ sig) → Buf (Elt Ideal) ℓ) (c : Dev nD)

theorem idx0 : ∀ t : Fin grid0.N, win0_0.index t = ![t.val / 4, 0] := by decide +kernel
theorem idx1 : ∀ t : Fin grid0.N, win0_1.index t = ![t.val / 4, 0] := by decide +kernel
theorem idx2 : ∀ t : Fin grid0.N, win0_2.index t = ![t.val / 4, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, t.val % 4] := by decide +kernel
theorem idx6 : ∀ t : Fin grid0.N, win0_6.index t = ![t.val % 4, 0] := by decide +kernel
theorem idx7 : ∀ t : Fin grid0.N, win0_7.index t = ![0, 0] := by decide +kernel

theorem read0 (t : Fin cfg0.N) (r : Fin 512) (d : Fin 1024) (R : Fin 16384) (h : R.val = t.val / 4 * 512 + r.val) :
    (iblk m c 0 t (ix2 r d) : EReal) = m ((c.tc : Thread nD τ).loc main_arg0) (ix3 0 R d) := by
  blk_ext! [iblk, V, idx0 t]
theorem read1 (t : Fin cfg0.N) (r : Fin 512) (d : Fin 512) (R : Fin 16384) (h : R.val = t.val / 4 * 512 + r.val) :
    (iblk m c 1 t (ix2 r d) : EReal) = m ((c.tc : Thread nD τ).loc main_arg1) (ix2 R d) := by
  blk_ext! [iblk, V, idx1 t]
theorem read2 (t : Fin cfg0.N) (r : Fin 512) (d : Fin 512) (R : Fin 16384) (h : R.val = t.val / 4 * 512 + r.val) :
    (iblk m c 2 t (ix2 r d) : EReal) = m ((c.tc : Thread nD τ).loc main_arg2) (ix2 R d) := by
  blk_ext! [iblk, V, idx2 t]
theorem read3 (t : Fin cfg0.N) (k : Fin 1024) (d : Fin 1024) :
    (iblk m c 3 t (ix2 k d) : EReal) = m ((c.tc : Thread nD τ).loc main_arg3) (ix3 0 k d) := by
  blk_ext! [iblk, V, idx3 t]
theorem read4 (t : Fin cfg0.N) (d : Fin 1024) :
    (iblk m c 4 t (ix2 0 d) : EReal) = m ((c.tc : Thread nD τ).loc main_arg4) (ix2 0 d) := by
  blk_ext! [iblk, V, idx4 t]
theorem read5 (t : Fin cfg0.N) (k : Fin 1024) (f : Fin 1024) (f' : Fin 4096) (h : f'.val = t.val % 4 * 1024 + f.val) :
    (iblk m c 5 t (ix2 k f) : EReal) = m ((c.tc : Thread nD τ).loc main_arg5) (ix3 0 k f') := by
  blk_ext! [iblk, V, idx5 t]
theorem read6 (t : Fin cfg0.N) (f : Fin 1024) (d : Fin 1024) (f' : Fin 4096) (h : f'.val = t.val % 4 * 1024 + f.val) :
    (iblk m c 6 t (ix2 f d) : EReal) = m ((c.tc : Thread nD τ).loc main_arg6) (ix3 0 f' d) := by
  blk_ext! [iblk, V, idx6 t]
theorem read7 (t : Fin cfg0.N) (d : Fin 1024) :
    (iblk m c 7 t (ix2 0 d) : EReal) = m ((c.tc : Thread nD τ).loc main_arg7) (ix1 d) := by
  blk_ext! [iblk, V, idx7 t]

/-- The specification's layer on row `R` of the arguments. -/
def layerOf (R : Fin 16384) : Fin 1024 → EReal :=
  layer (fun d => m ((c.tc : Thread nD τ).loc main_arg0) (ix3 0 R d)) (fun k => m ((c.tc : Thread nD τ).loc main_arg1) (ix2 R k))
    (fun k => m ((c.tc : Thread nD τ).loc main_arg2) (ix2 R k)) (fun k d => m ((c.tc : Thread nD τ).loc main_arg3) (ix3 0 k d))
    (fun d => m ((c.tc : Thread nD τ).loc main_arg4) (ix2 0 d)) (fun k f => m ((c.tc : Thread nD τ).loc main_arg5) (ix3 0 k f))
    (fun f d => m ((c.tc : Thread nD τ).loc main_arg6) (ix3 0 f d)) (fun d => m ((c.tc : Thread nD τ).loc main_arg7) (ix1 d))

/-- The output block after the last step of a block of rows, entry by entry. -/
theorem block_apply (b : ℕ) (h : 4 * b + 3 < cfg0.N) (r : Fin 512) (d : Fin 1024) (R : Fin 16384)
    (hR : R.val = b * 512 + r.val) : ((outsAt0 m c (4 * b + 3) h).1 (ix2 r d) : EReal) = layerOf m c R d := by
  rw [out_eq]
  dsimp only
  rw [pay3_apply]
  unfold layerOf layer
  have e0 : ∀ d, (iblk m c 0 ⟨4 * b, by omega⟩ (ix2 r d) : EReal) = _ := fun d =>
    read0 m c ⟨4 * b, by omega⟩ r d R (by dsimp only; omega)
  have e1 : ∀ d, (iblk m c 1 ⟨4 * b, by omega⟩ (ix2 r d) : EReal) = _ := fun d =>
    read1 m c ⟨4 * b, by omega⟩ r d R (by dsimp only; omega)
  have e2 : ∀ d, (iblk m c 2 ⟨4 * b, by omega⟩ (ix2 r d) : EReal) = _ := fun d =>
    read2 m c ⟨4 * b, by omega⟩ r d R (by dsimp only; omega)
  simp only [pay2_apply, pay6_apply, pay5_apply, pay1_apply, e0, e1, e2, read3, read4, read7]
  congr 1
  funext d
  congr 1
  rw [← sum_quarters]
  refine congrArg₂ _ (congrArg₂ _ (congrArg₂ _ (congrArg₂ _ rfl ?_) ?_) ?_) ?_ <;>
    refine Finset.sum_congr rfl fun f _ => ?_
  · simp only [read5 m c ⟨4 * b, by omega⟩ _ f ⟨f.val, by omega⟩ (by dsimp only; omega),
      read6 m c ⟨4 * b, by omega⟩ f d ⟨f.val, by omega⟩ (by dsimp only; omega)]
  · simp only [read5 m c ⟨4 * b + 1, by omega⟩ _ f ⟨1024 + f.val, by omega⟩ (by dsimp only; omega),
      read6 m c ⟨4 * b + 1, by omega⟩ f d ⟨1024 + f.val, by omega⟩ (by dsimp only; omega)]
  · simp only [read5 m c ⟨4 * b + 2, by omega⟩ _ f ⟨2048 + f.val, by omega⟩ (by dsimp only; omega),
      read6 m c ⟨4 * b + 2, by omega⟩ f d ⟨2048 + f.val, by omega⟩ (by dsimp only; omega)]
  · simp only [read5 m c ⟨4 * b + 3, by omega⟩ _ f ⟨3072 + f.val, by omega⟩ (by dsimp only; omega),
      read6 m c ⟨4 * b + 3, by omega⟩ f d ⟨3072 + f.val, by omega⟩ (by dsimp only; omega)]

/-- The result array, entry by entry. -/
theorem result_apply (R : Fin 16384) (d : Fin 1024) : (Value.G8 m c (ix2 R d) : EReal) = layerOf m c R d := by
  have hN : cfg0.N = 128 := N_0
  have hp : Value.pt8Of (ix2 R d) = 4 * (R.val / 512) + 3 := by
    show 4 * (1 * (R.val / 512 - 0) + 1 * (d.val / 1024 - 0)) + 3 = _
    omega
  have hlt : 4 * (R.val / 512) + 3 < cfg0.N := by omega
  have hl : Value.loc8Of (ix2 R d) = ix2 ⟨R.val % 512, by omega⟩ d := by
    funext a
    refine Fin.ext ?_
    match a with
    | ⟨0, _⟩ => rfl
    | ⟨1, _⟩ => show d.val % 1024 = d.val; omega
  unfold Value.G8
  rw [dif_pos (by omega), ← Value.outsAt0_sweep m c _ (by omega), hl]
  simp only [hp]
  exact block_apply m c (R.val / 512) hlt _ d R (by dsimp only; omega)

end Cert.Kernel2Ideal.Block
-- ==== Proof.MlpReference.lean ====
/-
The output layer's reference at one entry: the specification's layer on that row of the arguments.
-/
module
public import proofs.«01_k».proof.Proof.MlpSpec
public import proofs.«01_k».proof.Proof.Gen.Reference2Ideal.Read
public import Idealize.ShloMosaic.Lib.Pointwise
@[expose] public section
noncomputable section
set_option maxRecDepth 16384
namespace Cert.Reference2Ideal.Read
open Idealize Idealize.ShloMosaic Idealize.ShloMosaic.TcCoe Cert.OutMlp Cert.Reference2Ideal Cert.Reference2Ideal.Gen
variable (x0 : (⟨S1x16384x1024, .f32⟩ : BufTy).Contents (Elt Ideal)) (x1 x2 : (⟨S16384x512, .bf16⟩ : BufTy).Contents (Elt Ideal)) (x3 : (⟨S1x1024x1024, .f32⟩ : BufTy).Contents (Elt Ideal)) (x4 : (⟨S1x1024, .f32⟩ : BufTy).Contents (Elt Ideal))
  (x5 : (⟨S1x1024x4096, .f32⟩ : BufTy).Contents (Elt Ideal)) (x6 : (⟨S1x4096x1024, .f32⟩ : BufTy).Contents (Elt Ideal)) (x7 : (⟨S1024, .f32⟩ : BufTy).Contents (Elt Ideal))

/-- The row of the residual stream after the output projection. -/
def residOf (r : Fin 16384) : Fin 1024 → EReal :=
  resid (fun d => x0 (ix3 0 r d)) (fun k => x1 (ix2 r k)) (fun k => x2 (ix2 r k)) (fun k d => x3 (ix3 0 k d))

theorem resid_apply (r : Fin 16384) (d : Fin 1024) : val_main_v6 x0 x1 x2 x3 (ix2 r d) = residOf x0 x1 x2 x3 r d := by
  unfold residOf resid
  rw [add_assoc]
  pointwise [val_main_v6, val_main_v0, val_main_v5, val_main_v4, val_main_v3, val_main_v2, val_main_v1]

theorem hn_apply (r : Fin 16384) (d : Fin 1024) :
    val_main_v20 x0 x1 x2 x3 x4 (ix2 r d) = rmsNorm (residOf x0 x1 x2 x3 r) (fun d => x4 (ix2 0 d)) d := by
  unfold rmsNorm
  pointwise [val_main_v20, val_main_v19, val_main_v18, val_main_v17, val_main_v16, val_main_v15, val_main_v14,
    val_main_v13, val_main_v12, val_main_v11, val_main_v10, val_main_v9, val_main_v8, val_main_v7, val_main_cst,
    val_main_cst_0, val_main_cst_1]
  simp only [resid_apply]

theorem hid_apply (r : Fin 16384) (f : Fin 4096) :
    val_main_v23 x0 x1 x2 x3 x4 x5 (ix2 r f)
      = hid (rmsNorm (residOf x0 x1 x2 x3 r) (fun d => x4 (ix2 0 d))) (fun k => x5 (ix3 0 k f)) := by
  unfold hid
  pointwise [val_main_v23, val_main_v22, val_main_v21, val_main_call0_v0, val_main_call0_cst]
  simp only [hn_apply]

theorem sum_apply (r : Fin 16384) (d : Fin 1024) :
    val_main_v27 x0 x1 x2 x3 x4 x5 x6 (ix2 r d)
      = residOf x0 x1 x2 x3 r d + ∑ f : Fin 4096,
          hid (rmsNorm (residOf x0 x1 x2 x3 r) (fun d => x4 (ix2 0 d))) (fun k => x5 (ix3 0 k f))
          * hid (rmsNorm (residOf x0 x1 x2 x3 r) (fun d => x4 (ix2 0 d))) (fun k => x5 (ix3 0 k f))
          * x6 (ix3 0 f d) := by
  pointwise [val_main_v27, val_main_v26, val_main_v25, val_main_v24]
  simp only [hid_apply, resid_apply]

/-- The reference's result, entry by entry. -/
theorem out_apply (r : Fin 16384) (d : Fin 1024) :
    val_main_v40 x0 x1 x2 x3 x4 x5 x6 x7 (ix2 r d)
      = layer (fun d => x0 (ix3 0 r d)) (fun k => x1 (ix2 r k)) (fun k => x2 (ix2 r k)) (fun k d => x3 (ix3 0 k d))
          (fun d => x4 (ix2 0 d)) (fun k f => x5 (ix3 0 k f)) (fun f d => x6 (ix3 0 f d)) (fun d => x7 (ix1 d)) d := by
  unfold layer rmsNorm
  pointwise [val_main_v40, val_main_v39, val_main_v38, val_main_v37, val_main_v36, val_main_v35, val_main_v34,
    val_main_v33, val_main_v32, val_main_v31, val_main_v30, val_main_v29, val_main_v28, val_main_cst_2,
    val_main_cst_3, val_main_cst_4]
  simp only [sum_apply]
  rfl

end Cert.Reference2Ideal.Read
-- ==== Proof.MlpClaim.lean ====
/-
The output layer's equation: from memories that agree on the arguments the kernel and the reference end with the same
result array, the specification's layer on every row.
-/
module
public import proofs.«01_k».proof.Defs
public import proofs.«01_k».proof.Proof.MlpValue
public import proofs.«01_k».proof.Proof.MlpReference
@[expose] public section
noncomputable section
namespace Cert.OutMlp
open Idealize Idealize.ShloMosaic Idealize.ShloMosaic.TcCoe Idealize.SL.Sem
attribute [local instance] Cert.Kernel2Ideal.Gen.facts Cert.Reference2Ideal.Gen.facts

theorem reference_result (m : (ℓ : Loc Kernel2Ideal.nD Kernel2Ideal.τ Kernel2Ideal.sig) → Buf (Elt Ideal) ℓ)
    (m' : (ℓ : Loc Reference2Ideal.nD Reference2Ideal.τ Reference2Ideal.sig) → Buf (Elt Ideal) ℓ)
    (c : Dev Kernel2Ideal.nD)
    (h : m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)) :
    Cert.Reference2Ideal.Value.res_main_v40 m' c = Cert.Kernel2Ideal.Value.G8 m c := by
  obtain ⟨h0, h1, h2, h3, h4, h5, h6, h7⟩ := h
  rw [Cert.Reference2Ideal.Read.val_main_v40_eq, h0, h1, h2, h3, h4, h5, h6, h7]
  funext i
  rw [show i = ix2 (i 0) (i 1) from eq_ix2 i]
  exact (Cert.Reference2Ideal.Read.out_apply _ _ _ _ _ _ _ _ (i 0) (i 1)).trans
    (Cert.Kernel2Ideal.Block.result_apply m c (i 0) (i 1)).symm

theorem algebraic : Cert.algebraic_Kernel2Ideal_Reference2Ideal := fun m g m' g' _ h =>
  ⟨fun c => Cert.Kernel2Ideal.Value.G8 m c, Cert.Kernel2Ideal.Value.run m g,
    (θ_run _ _ _).mono (fun _ hr c => ⟨(hr c).1.trans (reference_result m m' c (h c)), (hr c).2⟩)
      (Cert.Reference2Ideal.Value.run m' g')⟩

end Cert.OutMlp
-- ==== Proof.ProjSpec.lean ====
/-
What the input projections compute, one row (token) at a time: a root-mean-square norm, a product with the columns of
the weights, and the rotation of the first 16 entries of a head by the angles of the row's position.
-/
module
public import Idealize.ShloMosaic.Lib.Pointwise
public import Idealize.ShloMosaic.Lib.Pipeline.ReadBack
public import proofs.«01_k».proof.Proof.MlpSpec
@[expose] public section
noncomputable section
namespace Cert.Proj
open Idealize Idealize.ShloMosaic

/-- The angle of frequency `f` at position `p`: the position times a power of the base. The literals are the base and 2/16. -/
def angle (p : BitVec 32) (f : Fin 8) : EReal :=
  Scalar.sitofp (F := Ideal) .f32 p
    * Ideal.pow (Ideal.ofBits .f32 1223959552#32) (-Scalar.sitofp (F := Ideal) .f32 (BitVec.ofNat 32 f.val) * Ideal.ofBits .f32 1040187392#32)

/-- The rotation of a head's row: the first 8 entries and the next 8 turn into each other, the rest stays. -/
def rope (x : Fin 64 → EReal) (cs sn : Fin 8 → EReal) (d : Fin 64) : EReal :=
  if h : d.val < 8 then x d * cs ⟨d.val, h⟩ - x ⟨d.val + 8, by omega⟩ * sn ⟨d.val, h⟩
  else if h : d.val < 16 then x d * cs ⟨d.val - 8, by omega⟩ + x ⟨d.val - 8, by omega⟩ * sn ⟨d.val - 8, by omega⟩
  else x d

theorem rope_first (x : Fin 64 → EReal) (cs sn : Fin 8 → EReal) (e : Fin 64) (d : Fin 8) (h : e.val = d.val) :
    rope x cs sn e = x ⟨d.val, by omega⟩ * cs d - x ⟨d.val + 8, by omega⟩ * sn d := by
  obtain ⟨e, he⟩ := e; obtain rfl : e = d.val := h
  simp [rope]

theorem rope_second (x : Fin 64 → EReal) (cs sn : Fin 8 → EReal) (e : Fin 64) (d : Fin 8) (h : e.val = d.val + 8) :
    rope x cs sn e = x ⟨d.val + 8, by omega⟩ * cs d + x ⟨d.val, by omega⟩ * sn d := by
  obtain ⟨e, he⟩ := e; obtain rfl : e = d.val + 8 := h
  simp [rope, show d.val + 8 < 16 by omega]

theorem rope_rest (x : Fin 64 → EReal) (cs sn : Fin 8 → EReal) (e : Fin 64) (a : Fin 48) (h : e.val = 16 + a.val) :
    rope x cs sn e = x ⟨16 + a.val, by omega⟩ := by
  obtain ⟨e, he⟩ := e; obtain rfl : e = 16 + a.val := h
  simp [rope, show ¬ 16 + a.val < 8 by omega]

/-- The rotation, as three pieces laid behind each other. -/
theorem rope_split (x : Fin 64 → EReal) (cs sn : Fin 8 → EReal) (d : Fin 64) :
    (if h : d.val < 8 then x ⟨d.val, by omega⟩ * cs ⟨d.val, h⟩ - x ⟨8 + d.val, by omega⟩ * sn ⟨d.val, h⟩
      else if h : d.val - 8 < 8 then
        x ⟨8 + (d.val - 8), by omega⟩ * cs ⟨d.val - 8, h⟩ + x ⟨d.val - 8, by omega⟩ * sn ⟨d.val - 8, h⟩
      else x ⟨16 + (d.val - 8 - 8), by omega⟩) = rope x cs sn d := by
  unfold rope
  have hx : ∀ (a : Fin 64) (b : ℕ) (hb : b < 64), a.val = b → x ⟨b, hb⟩ = x a := fun a b hb e => congrArg x (Fin.ext e.symm)
  by_cases h1 : d.val < 8
  · rw [dif_pos h1, dif_pos h1, hx ⟨d.val + 8, by omega⟩ (8 + d.val) _ (by simp only; omega)]
  · rw [dif_neg h1, dif_neg h1]
    by_cases h2 : d.val < 16
    · rw [dif_pos h2, dif_pos (by omega), hx d (8 + (d.val - 8)) _ (by omega)]
    · rw [dif_neg h2, dif_neg (by omega), hx d (16 + (d.val - 8 - 8)) _ (by omega)]

/-- The rotation's factors, a value for each of 128 lanes: two heads of 64, of which 16 turn. -/
def cosLane (cs : Fin 8 → EReal) (l : Fin 128) : EReal :=
  if l.val % 64 < 16 then cs ⟨l.val % 8, by omega⟩ else 1
def sinLow (sn : Fin 8 → EReal) (l : Fin 128) : EReal :=
  if l.val % 64 < 8 then -sn ⟨l.val % 8, by omega⟩ else 0
def sinHigh (sn : Fin 8 → EReal) (l : Fin 128) : EReal :=
  if 8 ≤ l.val % 64 ∧ l.val % 64 < 16 then sn ⟨l.val % 8, by omega⟩ else 0

/-- The rotation by shifted lanes is the rotation of each head. -/
theorem rolled (x : Fin 512 → EReal) (cs sn : Fin 8 → EReal) (g : Fin 4) (l : Fin 128) :
    x ⟨g.val * 128 + l.val, by omega⟩ * cosLane cs l + x ⟨g.val * 128 + (l.val + 128 - 8) % 128, by omega⟩ * sinHigh sn l
      + x ⟨g.val * 128 + (l.val + 128 - 120) % 128, by omega⟩ * sinLow sn l
    = rope (fun e => x ⟨(g.val * 2 + l.val / 64) * 64 + e.val, by omega⟩) cs sn ⟨l.val % 64, by omega⟩ := by
  have hx : ∀ (a b : ℕ) (ha : a < 512) (hb : b < 512), a = b → x ⟨a, ha⟩ = x ⟨b, hb⟩ := fun a b ha hb e => congrArg x (Fin.ext e)
  have hc : ∀ (f : Fin 8 → EReal) (a b : ℕ) (ha : a < 8) (hb : b < 8), a = b → f ⟨a, ha⟩ = f ⟨b, hb⟩ :=
    fun f a b ha hb e => congrArg f (Fin.ext e)
  unfold cosLane sinLow sinHigh rope
  by_cases h1 : l.val % 64 < 8
  · rw [if_pos (by omega), if_pos h1, if_neg (by omega), dif_pos h1, mul_zero, add_zero, mul_neg, ← sub_eq_add_neg]
    exact congrArg₂ (· - ·) (congrArg₂ (· * ·) (hx _ _ _ _ (by simp only; omega)) (hc cs _ _ _ _ (by simp only; omega)))
      (congrArg₂ (· * ·) (hx _ _ _ _ (by simp only; omega)) (hc sn _ _ _ _ (by simp only; omega)))
  · by_cases h2 : l.val % 64 < 16
    · rw [if_pos h2, if_neg h1, if_pos ⟨by omega, h2⟩, dif_neg h1, dif_pos h2, mul_zero, add_zero]
      exact congrArg₂ (· + ·) (congrArg₂ (· * ·) (hx _ _ _ _ (by simp only; omega)) (hc cs _ _ _ _ (by simp only; omega)))
        (congrArg₂ (· * ·) (hx _ _ _ _ (by simp only; omega)) (hc sn _ _ _ _ (by simp only; omega)))
    · rw [if_neg h2, if_neg h1, if_neg (by omega), dif_neg h1, dif_neg h2, mul_zero, mul_zero, add_zero, add_zero, mul_one]
      exact hx _ _ _ _ (by simp only; omega)

/-- Column `j` of the projected row. -/
def proj (x g : Fin 1024 → EReal) (w : Fin 1024 → Fin 2048 → EReal) (j : Fin 2048) : EReal :=
  ∑ k : Fin 1024, OutMlp.rmsNorm x g k * w k j

/-- Entry `d` of head `h` of the rotated columns that begin at column `o`, at position `p`. -/
def head (x g : Fin 1024 → EReal) (w : Fin 1024 → Fin 2048 → EReal) (p : BitVec 32) (o : Fin 4) (h : Fin 8) (d : Fin 64) : EReal :=
  rope (fun e => proj x g w ⟨o.val * 512 + (h.val * 64 + e.val), by omega⟩) (fun f => Ideal.cos (angle p f))
    (fun f => Ideal.sin (angle p f)) d

/-- Stores that are all blocks of one array, and that cover the buffer, leave that array. -/
theorem canon_of_piecesOf {s : Shape} {e : EltTy} (G : s.Idx → Elt Ideal e) (L : List (View.Piece (Elt Ideal) s e))
    (h : View.PiecesOf G L) (hc : ∀ y : s.Idx, ∃ p ∈ L, y ∈ p.1.set) (y : s.Idx) : View.canon L y = G y := by
  have := View.canon_append_of_piecesOf G [] L h y (hc y)
  rwa [List.append_nil] at this

end Cert.Proj
-- ==== Proof.PromptHost.lean ====
/-
The blocks that the prompt's projection reads, in terms of the program's arguments.
-/
module
public import proofs.«01_k».proof.Proof.Gen.Kernel3Ideal.Frame
public import proofs.«01_k».proof.Proof.ProjSpec
public import Idealize.ShloMosaic.Lib.Pipeline.ValueKit
@[expose] public section
noncomputable section
set_option maxRecDepth 16384
namespace Cert.Prompt
open Idealize Idealize.ShloMosaic Idealize.ShloMosaic.TcCoe Idealize.SL.Sem Cert.Kernel3Ideal Cert.Kernel3Ideal.Gen Pipeline
variable (m : (ℓ : Loc nD τ sig) → Buf (Elt Ideal) ℓ) (c : Dev nD)

/-- What the host code before the call leaves in the arrays that the call reads. -/
theorem host :
    (∀ (s : Fin 16384) (k : Fin 1024), V m c main_v0 (ix2 s k) = m (c.tc.loc main_arg0) (ix3 0 s k)) ∧
    (∀ (k : Fin 1024), V m c main_v2 (ix2 0 k) = m (c.tc.loc main_arg1) (ix2 0 k)) ∧
    (∀ (j : Fin 1536) (k : Fin 1024), V m c main_v6 (ix2 j k) = m (c.tc.loc main_arg2) (ix3 0 k ⟨j.val, by omega⟩)) ∧
    (∀ (k : Fin 1024) (j : Fin 512), V m c main_v9 (ix2 k ⟨512 + j.val, by omega⟩) = m (c.tc.loc main_arg2) (ix3 0 k ⟨1536 + j.val, by omega⟩)) ∧
    (∀ (f : Fin 8) (s : Fin 16384), V m c main_v70 (ix2 f s) = Ideal.cos (Proj.angle (BitVec.ofNat 32 s.val) f)) ∧
    (∀ (f : Fin 8) (s : Fin 16384), V m c main_v71 (ix2 f s) = Ideal.sin (Proj.angle (BitVec.ofNat 32 s.val) f)) := by
  refine ⟨fun s k => ?_, fun k => ?_, fun j k => ?_, fun k j => ?_, fun f s => ?_, fun f s => ?_⟩
  all_goals
    entry_read
    simp only [hostOps0, hostOps0_1, hostOps0_2, hostOps0_3, hostOps0_4, hostOps0_5, hostOps0_6, hostOps0_7, hostOps0_8,
      hostOps0_9, hostOps0_10, List.flatten_cons, List.flatten_nil, List.append_nil, List.cons_append, List.nil_append]
    after_results
    pointwise
  all_goals rfl

theorem idx0 : ∀ t : Fin grid0.N, win0_0.index t = ![t.val, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, t.val] := by decide +kernel
theorem idx5 : ∀ t : Fin grid0.N, win0_5.index t = ![0, t.val] := by decide +kernel

variable (t : Fin cfg0.N)
theorem blk0 (r : Fin 256) (k : Fin 1024) (s : Fin 16384) (h : s.val = t.val * 256 + r.val) : iblk m c 0 t (ix2 r k) = V m c main_v0 (ix2 s k) := by
  blk_ext [iblk, idx0 t]
theorem blk1 (k : Fin 1024) : iblk m c 1 t (ix2 0 k) = V m c main_v2 (ix2 0 k) := by
  blk_ext [iblk, idx1 t]
theorem blk2 (f : Fin 1536) (k : Fin 1024) : iblk m c 2 t (ix2 f k) = V m c main_v6 (ix2 f k) := by
  blk_ext [iblk, idx2 t]
theorem blk3 (k f : Fin 1024) : iblk m c 3 t (ix2 k f) = V m c main_v9 (ix2 k f) := by
  blk_ext [iblk, idx3 t]
theorem blk4 (f : Fin 8) (r : Fin 256) (s : Fin 16384) (h : s.val = t.val * 256 + r.val) : iblk m c 4 t (ix2 f r) = V m c main_v70 (ix2 f s) := by
  blk_ext [iblk, idx4 t]
theorem blk5 (f : Fin 8) (r : Fin 256) (s : Fin 16384) (h : s.val = t.val * 256 + r.val) : iblk m c 5 t (ix2 f r) = V m c main_v71 (ix2 f s) := by
  blk_ext [iblk, idx5 t]
end Cert.Prompt
-- ==== Proof.PromptBlock.lean ====
/-
The pieces in which one block of the prompt's projection stores its queries and keys: each head's rows in three
pieces (the two halves that turn into each other, and the rest), and all of them are blocks of one array.
-/
module
public import proofs.«01_k».proof.Proof.PromptHost
@[expose] public section
noncomputable section
set_option maxRecDepth 16384
namespace Cert.Prompt
open Idealize Idealize.ShloMosaic Idealize.ShloMosaic.TcCoe Idealize.SL.Sem Cert.Kernel3Ideal Cert.Kernel3Ideal.Gen Pipeline Proj

variable (z : Vec Ideal S1536x256 .f32) (cs sn : Vec Ideal S8x256 .f32)

/-- Row `r` of the rotated heads that begin at row `o · 512` of the projection, at column (token) `s`. -/
def turned (o : Fin 2) (r : Fin 512) (s : Fin 256) : EReal :=
  rope (fun d => z (ix2 ⟨o.val * 512 + (r.val / 64 * 64 + d.val), by omega⟩ s)) (fun f => cs (ix2 f s)) (fun f => sn (ix2 f s))
    ⟨r.val % 64, Nat.mod_lt _ (by norm_num)⟩

section
variable (o : Fin 2) (r : Fin 512) (s b : Fin 256)

theorem turned_first (n : ℕ) (hn : n % 64 = 0) (a : Fin 8) (hr : r.val = n + a.val) (hs : s = b) :
    turned z cs sn o r s = z (ix2 ⟨o.val * 512 + n + a.val, by omega⟩ b) * cs (ix2 a b)
      - z (ix2 ⟨o.val * 512 + (n + 8) + a.val, by omega⟩ b) * sn (ix2 a b) := by
  subst hs
  unfold turned
  rw [rope_first _ _ _ _ a (by dsimp only; omega)]
  simp only [show o.val * 512 + (r.val / 64 * 64 + a.val) = o.val * 512 + n + a.val by omega,
    show o.val * 512 + (r.val / 64 * 64 + (a.val + 8)) = o.val * 512 + (n + 8) + a.val by omega]

theorem turned_second (n : ℕ) (hn : n % 64 = 8) (a : Fin 8) (hr : r.val = n + a.val) (hs : s = b) :
    turned z cs sn o r s = z (ix2 ⟨o.val * 512 + n + a.val, by omega⟩ b) * cs (ix2 a b)
      + z (ix2 ⟨o.val * 512 + (n - 8) + a.val, by omega⟩ b) * sn (ix2 a b) := by
  subst hs
  unfold turned
  rw [rope_second _ _ _ _ a (by dsimp only; omega)]
  simp only [show o.val * 512 + (r.val / 64 * 64 + a.val) = o.val * 512 + (n - 8) + a.val by omega,
    show o.val * 512 + (r.val / 64 * 64 + (a.val + 8)) = o.val * 512 + n + a.val by omega]

theorem turned_rest (n : ℕ) (hn : n % 64 = 16) (a : Fin 48) (hr : r.val = n + a.val) (hs : s = b) :
    turned z cs sn o r s = z (ix2 ⟨o.val * 512 + n + a.val, by omega⟩ b) := by
  subst hs
  unfold turned
  rw [rope_rest _ _ _ _ a (by dsimp only; omega)]
  simp only [show o.val * 512 + (r.val / 64 * 64 + (16 + a.val)) = o.val * 512 + n + a.val by omega]
end

/-- The block of keys. -/
def keyBlock (y : S512x256.Idx) : EReal := turned z cs sn 1 (y 0) (y 1)

/-- The block of queries, scaled by the literal 1/8. -/
def queryBlock (y : S1x512x256.Idx) : EReal := turned z cs sn 0 (y 1) (y 2) * Ideal.ofBits .f32 0x3E000000#32

section
variable {z cs sn} {n : ℕ} {L : List (View.Piece (Elt Ideal) S512x256 .f32)}

theorem keys_first {inb} {w : S8x256.Idx → EReal} (hn : n % 64 = 0) (hb : n + 16 ≤ 512) (hw : ∀ (a : Fin 8) (b : Fin 256), w (ix2 a b) =
      z (ix2 ⟨1 * 512 + n + a.val, by omega⟩ b) * cs (ix2 a b) - z (ix2 ⟨1 * 512 + (n + 8) + a.val, by omega⟩ b) * sn (ix2 a b))
    (hL : View.PiecesOf (keyBlock z cs sn) L) :
    View.PiecesOf (keyBlock z cs sn) (⟨Rect.unit (s := S512x256) ![n, 0] ![8, 256] inb, w⟩ :: L) := by
  refine ⟨fun x => ?_, hL⟩
  obtain ⟨a, b, rfl⟩ : ∃ a b, x = (ix2 a b : S8x256.Idx) := ⟨x 0, x 1, by ext i; fin_cases i <;> rfl⟩
  exact (hw a b).trans (turned_first z cs sn 1 _ _ b n hn a (by show n + 1 * a.val = _; omega) (Fin.ext (by show 0 + 1 * b.val = _; omega))).symm

theorem keys_second {inb} {w : S8x256.Idx → EReal} (hn : n % 64 = 8) (hb : n + 8 ≤ 512) (hw : ∀ (a : Fin 8) (b : Fin 256), w (ix2 a b) =
      z (ix2 ⟨1 * 512 + n + a.val, by omega⟩ b) * cs (ix2 a b) + z (ix2 ⟨1 * 512 + (n - 8) + a.val, by omega⟩ b) * sn (ix2 a b))
    (hL : View.PiecesOf (keyBlock z cs sn) L) :
    View.PiecesOf (keyBlock z cs sn) (⟨Rect.unit (s := S512x256) ![n, 0] ![8, 256] inb, w⟩ :: L) := by
  refine ⟨fun x => ?_, hL⟩
  obtain ⟨a, b, rfl⟩ : ∃ a b, x = (ix2 a b : S8x256.Idx) := ⟨x 0, x 1, by ext i; fin_cases i <;> rfl⟩
  exact (hw a b).trans (turned_second z cs sn 1 _ _ b n hn a (by show n + 1 * a.val = _; omega) (Fin.ext (by show 0 + 1 * b.val = _; omega))).symm

theorem keys_rest {inb} {w : S48x256.Idx → EReal} (hn : n % 64 = 16) (hb : n + 48 ≤ 512) (hw : ∀ (a : Fin 48) (b : Fin 256), w (ix2 a b) =
      z (ix2 ⟨1 * 512 + n + a.val, by omega⟩ b)) (hL : View.PiecesOf (keyBlock z cs sn) L) :
    View.PiecesOf (keyBlock z cs sn) (⟨Rect.unit (s := S512x256) ![n, 0] ![48, 256] inb, w⟩ :: L) := by
  refine ⟨fun x => ?_, hL⟩
  obtain ⟨a, b, rfl⟩ : ∃ a b, x = (ix2 a b : S48x256.Idx) := ⟨x 0, x 1, by ext i; fin_cases i <;> rfl⟩
  exact (hw a b).trans (turned_rest z cs sn 1 _ _ b n hn a (by show n + 1 * a.val = _; omega) (Fin.ext (by show 0 + 1 * b.val = _; omega))).symm
end

section
variable {z cs sn} {n : ℕ} {L : List (View.Piece (Elt Ideal) S1x512x256 .f32)}

theorem queries_first {inb} {w : S1x8x256.Idx → EReal} (hn : n % 64 = 0) (hb : n + 16 ≤ 512) (hw : ∀ (a : Fin 8) (b : Fin 256), w (ix3 0 a b) =
      (z (ix2 ⟨0 * 512 + n + a.val, by omega⟩ b) * cs (ix2 a b) - z (ix2 ⟨0 * 512 + (n + 8) + a.val, by omega⟩ b) * sn (ix2 a b))
        * Ideal.ofBits .f32 0x3E000000#32)
    (hL : View.PiecesOf (queryBlock z cs sn) L) :
    View.PiecesOf (queryBlock z cs sn) (⟨Rect.unit (s := S1x512x256) ![0, n, 0] ![1, 8, 256] inb, w⟩ :: L) := by
  refine ⟨fun x => ?_, hL⟩
  obtain ⟨a, b, rfl⟩ : ∃ a b, x = (ix3 0 a b : S1x8x256.Idx) := ⟨x 1, x 2, by ext i; fin_cases i <;> first | exact Nat.lt_one_iff.mp (x 0).isLt | rfl⟩
  exact (hw a b).trans (congrArg (· * _) (turned_first z cs sn 0 _ _ b n hn a (by show n + 1 * a.val = _; omega) (Fin.ext (by show 0 + 1 * b.val = _; omega))).symm)

theorem queries_second {inb} {w : S1x8x256.Idx → EReal} (hn : n % 64 = 8) (hb : n + 8 ≤ 512) (hw : ∀ (a : Fin 8) (b : Fin 256), w (ix3 0 a b) =
      (z (ix2 ⟨0 * 512 + n + a.val, by omega⟩ b) * cs (ix2 a b) + z (ix2 ⟨0 * 512 + (n - 8) + a.val, by omega⟩ b) * sn (ix2 a b))
        * Ideal.ofBits .f32 0x3E000000#32)
    (hL : View.PiecesOf (queryBlock z cs sn) L) :
    View.PiecesOf (queryBlock z cs sn) (⟨Rect.unit (s := S1x512x256) ![0, n, 0] ![1, 8, 256] inb, w⟩ :: L) := by
  refine ⟨fun x => ?_, hL⟩
  obtain ⟨a, b, rfl⟩ : ∃ a b, x = (ix3 0 a b : S1x8x256.Idx) := ⟨x 1, x 2, by ext i; fin_cases i <;> first | exact Nat.lt_one_iff.mp (x 0).isLt | rfl⟩
  exact (hw a b).trans (congrArg (· * _) (turned_second z cs sn 0 _ _ b n hn a (by show n + 1 * a.val = _; omega) (Fin.ext (by show 0 + 1 * b.val = _; omega))).symm)

theorem queries_rest {inb} {w : S1x48x256.Idx → EReal} (hn : n % 64 = 16) (hb : n + 48 ≤ 512) (hw : ∀ (a : Fin 48) (b : Fin 256), w (ix3 0 a b) =
      z (ix2 ⟨0 * 512 + n + a.val, by omega⟩ b) * Ideal.ofBits .f32 0x3E000000#32) (hL : View.PiecesOf (queryBlock z cs sn) L) :
    View.PiecesOf (queryBlock z cs sn) (⟨Rect.unit (s := S1x512x256) ![0, n, 0] ![1, 48, 256] inb, w⟩ :: L) := by
  refine ⟨fun x => ?_, hL⟩
  obtain ⟨a, b, rfl⟩ : ∃ a b, x = (ix3 0 a b : S1x48x256.Idx) := ⟨x 1, x 2, by ext i; fin_cases i <;> first | exact Nat.lt_one_iff.mp (x 0).isLt | rfl⟩
  exact (hw a b).trans (congrArg (· * _) (turned_rest z cs sn 0 _ _ b n hn a (by show n + 1 * a.val = _; omega) (Fin.ext (by show 0 + 1 * b.val = _; omega))).symm)
end

variable (m : (ℓ : Loc nD τ sig) → Buf (Elt Ideal) ℓ) (c : Dev nD) (t : Fin cfg0.N)

/-- What a point leaves in its block of keys. -/
theorem keys (y : S512x256.Idx) : (outsAt0 m c t.val t.isLt).2.1 y =
    keyBlock (k0_pay4 (iblk m c 0 t) (iblk m c 1 t) (iblk m c 2 t)) (k0_pay5 (iblk m c 4 t)) (k0_pay6 (iblk m c 5 t)) y := by
  by_cases h : t.val % 64 = 0 <;> [rw [outsAt0_A m c t h]; rw [outsAt0_B m c t h]] <;> frame_out
  all_goals
    refine canon_of_piecesOf _ _ ?_ (View.cover_of_tiledBy _ ![8, 256] (by sl_kernel_rfl)) y
    generalize k0_pay4 (iblk m c 0 t) (iblk m c 1 t) (iblk m c 2 t) = z
    generalize k0_pay5 (iblk m c 4 t) = cs
    generalize k0_pay6 (iblk m c 5 t) = sn
    iterate 8
      refine keys_rest (by decide) (by decide) (fun a b => ?_) (keys_second (by decide) (by decide) (fun a b => ?_)
        (keys_first (by decide) (by decide) (fun a b => ?_) ?_))
      rotate_left 3
    · exact trivial
  all_goals
    pointwise [k0_pay57, k0_pay58, k0_pay59, k0_pay60, k0_pay61, k0_pay62, k0_pay63, k0_pay64, k0_pay65, k0_pay66, k0_pay67, k0_pay68,
      k0_pay69, k0_pay70, k0_pay71, k0_pay72, k0_pay73, k0_pay74, k0_pay75, k0_pay76, k0_pay77, k0_pay78, k0_pay79, k0_pay80,
      k0_pay81, k0_pay82, k0_pay83, k0_pay84, k0_pay85, k0_pay86, k0_pay87, k0_pay88, k0_pay89, k0_pay90, k0_pay91, k0_pay92,
      k0_pay93, k0_pay94, k0_pay95, k0_pay96]

/-- What a point leaves in its block of queries. -/
theorem queries (y : S1x512x256.Idx) : (outsAt0 m c t.val t.isLt).1 y =
    queryBlock (k0_pay4 (iblk m c 0 t) (iblk m c 1 t) (iblk m c 2 t)) (k0_pay5 (iblk m c 4 t)) (k0_pay6 (iblk m c 5 t)) y := by
  by_cases h : t.val % 64 = 0 <;> [rw [outsAt0_A m c t h]; rw [outsAt0_B m c t h]] <;> frame_out
  all_goals
    refine canon_of_piecesOf _ _ ?_ (View.cover_of_tiledBy _ ![1, 8, 256] (by sl_kernel_rfl)) y
    iterate 8
      refine queries_rest (by decide) (by decide) (fun a b => ?_) (queries_second (by decide) (by decide) (fun a b => ?_)
        (queries_first (by decide) (by decide) (fun a b => ?_) ?_))
      rotate_left 3
    · exact trivial
  all_goals
    pointwise [k0_pay7, k0_pay8, k0_pay9, k0_pay10, k0_pay11, k0_pay12, k0_pay13, k0_pay14, k0_pay15, k0_pay16, k0_pay17, k0_pay18,
      k0_pay19, k0_pay20, k0_pay21, k0_pay22, k0_pay23, k0_pay24, k0_pay25, k0_pay26, k0_pay27, k0_pay28, k0_pay29, k0_pay30,
      k0_pay31, k0_pay32, k0_pay33, k0_pay34, k0_pay35, k0_pay36, k0_pay37, k0_pay38, k0_pay39, k0_pay40, k0_pay41, k0_pay42,
      k0_pay43, k0_pay44, k0_pay45, k0_pay46, k0_pay47, k0_pay48, k0_pay49, k0_pay50, k0_pay51, k0_pay52, k0_pay53, k0_pay54,
      k0_pay55, k0_pay56]

/-- What a point leaves in its block of values. -/
theorem values (a : Fin 512) (b : Fin 256) : (outsAt0 m c t.val t.isLt).2.2.1 (ix2 a b) =
    k0_pay4 (iblk m c 0 t) (iblk m c 1 t) (iblk m c 2 t) (ix2 ⟨1024 + a.val, by omega⟩ b) := by
  by_cases h : t.val % 64 = 0 <;> [rw [outsAt0_A m c t h]; rw [outsAt0_B m c t h]] <;> frame_out
  all_goals pointwise [k0_pay97]

/-- What a point after the first leaves in its block of pooling rows: the last 16 rows of its own product. -/
theorem tail (h : ¬t.val % 64 = 0) (a : Fin 16) (b : Fin 512) : (outsAt0 m c t.val t.isLt).2.2.2.2.2.2.2.1 (ix2 a b) =
    k0_pay99 (k0_pay3 (iblk m c 0 t) (iblk m c 1 t)) (iblk m c 3 t) (ix2 ⟨240 + a.val, by omega⟩ ⟨512 + b.val, by omega⟩) := by
  rw [outsAt0_B m c t h]
  frame_out
  rw [View.readCov_eq_canon']
  have e : (Rect.unit (s := S272x512) ![256, 0] ![16, 512] inb_S272x512_S16x512_256_0).toLoadRect.idx (ix2 a b)
      = (Rect.unit (s := S272x512) ![16, 0] ![256, 512] inb_S272x512_S256x512_16_0).emb (ix2 ⟨240 + a.val, by omega⟩ b) := by
    ext i
    fin_cases i
    · show 256 + 1 * a.val = 16 + 1 * (240 + a.val); omega
    · rfl
  refine (congrArg _ e).trans ((View.canon_cons_emb _ _ _ _).trans ?_)
  pointwise [k0_pay122]

/-- The product of the weights' rows with the normed rows of a block. -/
theorem product (x : Vec Ideal S256x1024 .f32) (g : Vec Ideal S1x1024 .f32) (w : Vec Ideal S1536x1024 .bf16) (j : Fin 1536) (r : Fin 256) :
    k0_pay4 x g w (ix2 j r) = ∑ k : Fin 1024, w (ix2 j k) * OutMlp.rmsNorm (fun k => x (ix2 r k)) (fun k => g (ix2 0 k)) k := by
  pointwise [k0_pay4, k0_pay3]
  rfl

/-- The second product of a block, the normed rows with the columns of the weights. -/
theorem product2 (x : Vec Ideal S256x1024 .f32) (g : Vec Ideal S1x1024 .f32) (w : Vec Ideal S1024x1024 .bf16) (r : Fin 256) (j : Fin 1024) :
    k0_pay99 (k0_pay3 x g) w (ix2 r j) = ∑ k : Fin 1024, OutMlp.rmsNorm (fun k => x (ix2 r k)) (fun k => g (ix2 0 k)) k * w (ix2 k j) := by
  pointwise [k0_pay99, k0_pay3]
  rfl
end Cert.Prompt
-- ==== Proof.PromptValue.lean ====
/-
The arrays that the prompt's projection leaves, from the program's arguments.
-/
module
public import proofs.«01_k».proof.Proof.PromptBlock
@[expose] public section
noncomputable section
set_option maxRecDepth 16384
namespace Cert.Prompt
open Idealize Idealize.ShloMosaic Idealize.ShloMosaic.TcCoe Idealize.SL.Sem Cert.Kernel3Ideal Cert.Kernel3Ideal.Gen Pipeline Proj
variable (m : (ℓ : Loc nD τ sig) → Buf (Elt Ideal) ℓ) (c : Dev nD)

/-- Row `s` of the prompt, the gain, and the weights, as they lie in the arguments. -/
abbrev row (s : Fin 16384) (k : Fin 1024) : EReal := m (c.tc.loc main_arg0) (ix3 0 s k)
abbrev gain (k : Fin 1024) : EReal := m (c.tc.loc main_arg1) (ix2 0 k)
abbrev weight (k : Fin 1024) (j : Fin 2048) : EReal := m (c.tc.loc main_arg2) (ix3 0 k j)

/-- An entry of the block's product is an entry of the projected row. -/
theorem entry (t : Fin cfg0.N) (j : Fin 1536) (r : Fin 256) (s : Fin 16384) (h : s.val = t.val * 256 + r.val) :
    k0_pay4 (iblk m c 0 t) (iblk m c 1 t) (iblk m c 2 t) (ix2 j r) = proj (row m c s) (gain m c) (weight m c) ⟨j.val, by omega⟩ := by
  rw [product]
  refine Finset.sum_congr rfl fun k _ => ?_
  rw [mul_comm, blk2, (host m c).2.2.1]
  simp only [blk0 m c t r _ s h, blk1, (host m c).1, (host m c).2.1]

theorem entry2 (t : Fin cfg0.N) (r : Fin 256) (j : Fin 512) (s : Fin 16384) (h : s.val = t.val * 256 + r.val) :
    k0_pay99 (k0_pay3 (iblk m c 0 t) (iblk m c 1 t)) (iblk m c 3 t) (ix2 r ⟨512 + j.val, by omega⟩)
      = proj (row m c s) (gain m c) (weight m c) ⟨1536 + j.val, by omega⟩ := by
  rw [product2]
  refine Finset.sum_congr rfl fun k _ => ?_
  rw [blk3, (host m c).2.2.2.1]
  simp only [blk0 m c t r _ s h, blk1, (host m c).1, (host m c).2.1]

/-- A rotated entry of the block is a rotated entry of the token. -/
theorem turned_entry (t : Fin cfg0.N) (o : Fin 2) (q : Fin 512) (r : Fin 256) (s : Fin 16384) (h : s.val = t.val * 256 + r.val) :
    turned (k0_pay4 (iblk m c 0 t) (iblk m c 1 t) (iblk m c 2 t)) (k0_pay5 (iblk m c 4 t)) (k0_pay6 (iblk m c 5 t)) o q r
      = head (row m c s) (gain m c) (weight m c) (BitVec.ofNat 32 s.val) ⟨o.val, by omega⟩ ⟨q.val / 64, by omega⟩ ⟨q.val % 64, Nat.mod_lt _ (by norm_num)⟩ := by
  have e4 : ∀ f : Fin 8, k0_pay5 (iblk m c 4 t) (ix2 f r) = Ideal.cos (angle (BitVec.ofNat 32 s.val) f) := fun f => by
    rw [← (host m c).2.2.2.2.1 f s, ← blk4 m c t f r s h]; pointwise [k0_pay5]
  have e5 : ∀ f : Fin 8, k0_pay6 (iblk m c 5 t) (ix2 f r) = Ideal.sin (angle (BitVec.ofNat 32 s.val) f) := fun f => by
    rw [← (host m c).2.2.2.2.2 f s, ← blk5 m c t f r s h]; pointwise [k0_pay6]
  unfold turned head
  simp only [e4, e5, fun j => entry m c t j r s h]

theorem idx11 : ∀ t : Fin grid0.N, win0_11.index t = ![t.val, 0, 0] := by decide +kernel
theorem idx12 : ∀ t : Fin grid0.N, win0_12.index t = ![0, t.val] := by decide +kernel
theorem idx13 : ∀ t : Fin grid0.N, win0_13.index t = ![0, t.val] := by decide +kernel
theorem idx18 : ∀ t : Fin grid0.N, win0_18.index t = ![0, 0] := by decide +kernel

theorem last18 : ∀ t : Fin grid0.N, win0_18.flush t = true → t.val = 63 := by decide +kernel

/-- The queries, by blocks of 256 tokens. -/
def queriesOut (i : S64x512x256.Idx) : EReal :=
  head (row m c ⟨(i 0).val * 256 + (i 2).val, by have h0 : (i 0).val < 64 := (i 0).isLt; have h2 : (i 2).val < 256 := (i 2).isLt; omega⟩) (gain m c) (weight m c)
    (BitVec.ofNat 32 ((i 0).val * 256 + (i 2).val)) 0 ⟨(i 1).val / 64, by have h1 : (i 1).val < 512 := (i 1).isLt; omega⟩
    ⟨(i 1).val % 64, Nat.mod_lt _ (by norm_num)⟩ * Ideal.ofBits .f32 0x3E000000#32

/-- The keys, a column for each token. -/
def keysOut (i : S512x16384.Idx) : EReal :=
  head (row m c (i 1)) (gain m c) (weight m c) (BitVec.ofNat 32 (i 1).val) 1 ⟨(i 0).val / 64, by have h : (i 0).val < 512 := (i 0).isLt; omega⟩
    ⟨(i 0).val % 64, Nat.mod_lt _ (by norm_num)⟩

/-- The values, a column for each token. -/
def valuesOut (i : S512x16384.Idx) : EReal :=
  proj (row m c (i 1)) (gain m c) (weight m c) ⟨1024 + (i 0).val, by have h : (i 0).val < 512 := (i 0).isLt; omega⟩

/-- The pooling rows of the last 16 tokens. -/
def tailOut (i : S16x512.Idx) : EReal :=
  proj (row m c ⟨16368 + (i 0).val, by have h : (i 0).val < 16 := (i 0).isLt; omega⟩) (gain m c) (weight m c)
    ⟨1536 + (i 1).val, by have h : (i 1).val < 512 := (i 1).isLt; omega⟩

theorem lt_tokens (t : Fin cfg0.N) (r : Fin 256) : t.val * 256 + r.val < 16384 := by
  have : t.val < 64 := t.isLt
  omega

theorem queriesArr : (dats m 0 c).arrAt 11 cfg0.N = queriesOut m c := by
  refine (dats m 0 c).arrAt_eq_of_covers 11 _ (by decide +kernel) fun t hf y => ?_
  blk_simp
  rw [after0_11, queries]
  refine (congrArg (· * _) (turned_entry m c t 0 (y 1) (y 2) ⟨t.val * 256 + (y 2).val, lt_tokens t (y 2)⟩ rfl)).trans ?_
  have e : (win0_11.blk t).view.emb y = ix3 ⟨t.val, t.isLt⟩ (y 1) (y 2) := by blk_ext [idx11 t]
  rw [e]
  rfl

theorem keysArr : (dats m 0 c).arrAt 12 cfg0.N = keysOut m c := by
  refine (dats m 0 c).arrAt_eq_of_covers 12 _ (by decide +kernel) fun t hf y => ?_
  blk_simp
  rw [after0_12, keys]
  refine (turned_entry m c t 1 (y 0) (y 1) ⟨t.val * 256 + (y 1).val, lt_tokens t (y 1)⟩ rfl).trans ?_
  have e : (win0_12.blk t).view.emb y = ix2 (y 0) ⟨t.val * 256 + (y 1).val, lt_tokens t (y 1)⟩ := by blk_ext [idx12 t]
  rw [e]
  rfl

theorem valuesArr : (dats m 0 c).arrAt 13 cfg0.N = valuesOut m c := by
  refine (dats m 0 c).arrAt_eq_of_covers 13 _ (by decide +kernel) fun t hf y => ?_
  blk_simp
  rw [after0_13]
  have e : (win0_13.blk t).view.emb y = ix2 (y 0) ⟨t.val * 256 + (y 1).val, lt_tokens t (y 1)⟩ := by blk_ext [idx13 t]
  have e' : y = ix2 (y 0) (y 1) := by blk_ext
  rw [e]
  refine (congrArg _ e').trans ((values m c t (y 0) (y 1)).trans ?_)
  exact entry m c t _ (y 1) ⟨t.val * 256 + (y 1).val, lt_tokens t (y 1)⟩ rfl

theorem tailArr : (dats m 0 c).arrAt 18 cfg0.N = tailOut m c := by
  refine (dats m 0 c).arrAt_eq_of_covers 18 _ (by decide +kernel) fun t hf y => ?_
  have ht : t.val = 63 := last18 t hf
  blk_simp
  rw [after0_18]
  have h0 : (y 0).val < 16 := (y 0).isLt
  have e : (win0_18.blk t).view.emb y = ix2 (y 0) (y 1) := by blk_ext [idx18 t]
  have e' : y = ix2 (y 0) (y 1) := by blk_ext
  rw [e]
  refine (congrArg _ e').trans ((tail m c t (by omega) (y 0) (y 1)).trans ?_)
  exact entry2 m c t ⟨240 + (y 0).val, by omega⟩ (y 1) ⟨16368 + (y 0).val, by omega⟩
    (by show 16368 + (y 0).val = t.val * 256 + (240 + (y 0).val); omega)
end Cert.Prompt
-- ==== Proof.PromptRun.lean ====
/-
The run of the prompt's projection: what its four results hold, entry by entry.
-/
module
public import proofs.«01_k».proof.Proof.PromptValue
@[expose] public section
noncomputable section
set_option maxRecDepth 16384
namespace Cert.Prompt
open Idealize Idealize.ShloMosaic Idealize.ShloMosaic.TcCoe Idealize.SL.Sem Cert.Kernel3Ideal Cert.Kernel3Ideal.Gen Pipeline Proj
variable (m : (ℓ : Loc nD τ sig) → Buf (Elt Ideal) ℓ) (c : Dev nD)

/-- What the host operations after the call leave in a buffer. -/
abbrev after (b : Ref sig .tc) := Pipeline.afterTail₀ cfgs (dats m) 0 (V0 m) [hostOps1] c b

theorem keysResult (s : Fin 16384) (h : Fin 8) (d : Fin 64) :
    after m c main_v81 (ix5 0 0 s h d) = keysOut m c (ix2 ⟨h.val * 64 + d.val, by omega⟩ s) := by
  unfold after Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v72_1) = keysOut m c from
    (Pipeline.withArrays_arr spec0 winFacts0.arr_inj c _ _ 12).trans (keysArr m c)]
  pointwise

theorem valuesResult (s : Fin 16384) (h : Fin 8) (d : Fin 64) :
    after m c main_v82 (ix5 0 0 s h d) = valuesOut m c (ix2 ⟨h.val * 64 + d.val, by omega⟩ s) := by
  unfold after Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v72_2) = valuesOut m c from
    (Pipeline.withArrays_arr spec0 winFacts0.arr_inj c _ _ 13).trans (valuesArr m c)]
  pointwise

theorem poolResult (r : Fin 15) (d : Fin 512) :
    after m c main_v83 (ix4 0 0 r d) = tailOut m c (ix2 ⟨1 + r.val, by omega⟩ d) := by
  unfold after Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v72_7) = tailOut m c from
    (Pipeline.withArrays_arr spec0 winFacts0.arr_inj c _ _ 18).trans (tailArr m c)]
  pointwise

/-- Both programs run, and the kernel's results are those arrays; the arguments stay. -/
theorem run (g : Dev nD → PrngReg) :
    θ_run defs (onTc (τ := τ) (main (F := Ideal))) ⟨m, fun _ => 0, g⟩ fun r => ∀ c : Dev nD,
      r.2.mem ((c.tc : Thread nD τ).loc main_v72_0) = queriesOut m c
      ∧ r.2.mem ((c.tc : Thread nD τ).loc main_v81) = after m c main_v81
      ∧ r.2.mem ((c.tc : Thread nD τ).loc main_v82) = after m c main_v82
      ∧ r.2.mem ((c.tc : Thread nD τ).loc main_v83) = after m c main_v83
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ?_) (Gen.run_main m g)
  have hb := fun b h₁ h₂ => (h c).2 b (Pipeline.mem_restRefs_of b h₁ h₂)
  exact ⟨((h c).1 11).trans (queriesArr m c), hb _ (by decide) (by decide), hb _ (by decide) (by decide), hb _ (by decide) (by decide),
    (hb _ (by decide) (by decide)).trans (W_main_arg0 m (dats m) c), (hb _ (by decide) (by decide)).trans (W_main_arg1 m (dats m) c),
    (hb _ (by decide) (by decide)).trans (W_main_arg2 m (dats m) c), (hb _ (by decide) (by decide)).trans (W_main_arg3 m (dats m) c),
    (hb _ (by decide) (by decide)).trans (W_main_arg4 m (dats m) c)⟩

end Cert.Prompt
-- ==== Proof.PromptReference.lean ====
/-
The prompt's projection as the reference computes it, entry by entry.
-/
module
public import proofs.«01_k».proof.Proof.ProjSpec
public import proofs.«01_k».proof.Proof.Gen.Reference3Ideal.Read
public import Idealize.ShloMosaic.Lib.Pointwise
@[expose] public section
noncomputable section
set_option maxRecDepth 16384
namespace Cert.Reference3Ideal.Read
open Idealize Idealize.ShloMosaic Idealize.ShloMosaic.TcCoe Cert.Proj Cert.Reference3Ideal Cert.Reference3Ideal.Gen
variable (x0 : (⟨S1x16384x1024, .f32⟩ : BufTy).Contents (Elt Ideal)) (x1 : (⟨S1x1024, .f32⟩ : BufTy).Contents (Elt Ideal))
  (x2 : (⟨S1x1024x2048, .f32⟩ : BufTy).Contents (Elt Ideal))

/-- The projected row of token `s`, and its rotated heads. -/
abbrev projOf (s : Fin 16384) : Fin 2048 → EReal :=
  proj (fun k => x0 (ix3 0 s k)) (fun k => x1 (ix2 0 k)) (fun k j => x2 (ix3 0 k j))
abbrev headOf (s : Fin 16384) : Fin 4 → Fin 8 → Fin 64 → EReal :=
  head (fun k => x0 (ix3 0 s k)) (fun k => x1 (ix2 0 k)) (fun k j => x2 (ix3 0 k j)) (BitVec.ofNat 32 s.val)

theorem norm_apply (s : Fin 16384) (k : Fin 1024) :
    val_main_v16 x0 x1 (ix2 s k) = OutMlp.rmsNorm (fun k => x0 (ix3 0 s k)) (fun k => x1 (ix2 0 k)) k := by
  unfold OutMlp.rmsNorm
  pointwise [val_main_v16, val_main_v15, val_main_v14, val_main_v13, val_main_v12, val_main_v11, val_main_v10, val_main_v9,
    val_main_v8, val_main_v7, val_main_v6, val_main_v5, val_main_v4, val_main_v2, val_main_v1, val_main_cst, val_main_cst_0, val_main_cst_1]

theorem proj_apply (s : Fin 16384) (j : Fin 2048) : val_main_v17 x0 x1 x2 (ix2 s j) = projOf x0 x1 x2 s j := by
  unfold projOf proj
  pointwise [val_main_v17, val_main_v3]
  simp only [norm_apply]

theorem cos_apply (s : Fin 16384) (f : Fin 8) : val_main_v30 (F := Ideal) (ix2 s f) = Ideal.cos (angle (BitVec.ofNat 32 s.val) f) := by
  unfold angle
  pointwise [val_main_v30, val_main_v29, val_main_v28, val_main_v27, val_main_v26, val_main_v25, val_main_v24, val_main_v23,
    val_main_v22, val_main_v21, val_main_v20, val_main_v19, val_main_v18, val_main_v0, val_main_cst_2, val_main_cst_3]
  rfl

theorem sin_apply (s : Fin 16384) (f : Fin 8) : val_main_v32 (F := Ideal) (ix2 s f) = Ideal.sin (angle (BitVec.ofNat 32 s.val) f) := by
  unfold angle
  pointwise [val_main_v32, val_main_v29, val_main_v28, val_main_v27, val_main_v26, val_main_v25, val_main_v24, val_main_v23,
    val_main_v22, val_main_v21, val_main_v20, val_main_v19, val_main_v18, val_main_v0, val_main_cst_2, val_main_cst_3]
  rfl

theorem queries_head (s : Fin 16384) (h : Fin 8) (d : Fin 64) : val_main_v53 x0 x1 x2 (ix3 s h d) = headOf x0 x1 x2 s 0 h d := by
  unfold headOf head
  rw [← rope_split]
  pointwise [val_main_v53, val_main_v52, val_main_v51, val_main_v50, val_main_v49, val_main_v48, val_main_v47, val_main_v46, val_main_v45, val_main_v44,
    val_main_v43, val_main_v42, val_main_v41, val_main_v40, val_main_v35, val_main_v34, val_main_v33, val_main_v31]
  simp only [proj_apply, cos_apply, sin_apply]

theorem keys_head (s : Fin 16384) (h : Fin 8) (d : Fin 64) : val_main_v67 x0 x1 x2 (ix3 s h d) = headOf x0 x1 x2 s 1 h d := by
  unfold headOf head
  rw [← rope_split]
  pointwise [val_main_v67, val_main_v66, val_main_v65, val_main_v64, val_main_v63, val_main_v62, val_main_v61, val_main_v60, val_main_v59, val_main_v58,
    val_main_v57, val_main_v56, val_main_v55, val_main_v54, val_main_v37, val_main_v36, val_main_v33, val_main_v31]
  simp only [proj_apply, cos_apply, sin_apply]

theorem keys_apply (s : Fin 16384) (h : Fin 8) (d : Fin 64) : val_main_v73 x0 x1 x2 (ix5 0 0 s h d) = headOf x0 x1 x2 s 1 h d := by
  rw [← keys_head]
  pointwise [val_main_v73]

theorem queries_apply (b : Fin 64) (j : Fin 512) (r : Fin 256) :
    val_main_v72 x0 x1 x2 (ix3 b j r)
      = headOf x0 x1 x2 ⟨b.val * 256 + r.val, by omega⟩ 0 ⟨j.val / 64, by omega⟩ ⟨j.val % 64, Nat.mod_lt _ (by norm_num)⟩
        * Ideal.ofBits .f32 0x3E000000#32 := by
  rw [← queries_head]
  pointwise [val_main_v72, val_main_v71, val_main_v70, val_main_v69, val_main_cst_4]

theorem values_apply (s : Fin 16384) (h : Fin 8) (d : Fin 64) :
    val_main_v74 x0 x1 x2 (ix5 0 0 s h d) = projOf x0 x1 x2 s ⟨1024 + (h.val * 64 + d.val), by omega⟩ := by
  rw [← proj_apply]
  pointwise [val_main_v74, val_main_v39, val_main_v38]

theorem pool_apply (r : Fin 15) (d : Fin 512) :
    val_main_v76 x0 x1 x2 (ix4 0 0 r d) = projOf x0 x1 x2 ⟨16369 + r.val, by omega⟩ ⟨1536 + d.val, by omega⟩ := by
  rw [← proj_apply]
  pointwise [val_main_v76, val_main_v75, val_main_v68]

end Cert.Reference3Ideal.Read
-- ==== Proof.PromptClaim.lean ====
/-
The prompt's projection: the kernel and the reference end with the same four results.
-/
module
public import proofs.«01_k».proof.Defs
public import proofs.«01_k».proof.Proof.PromptRun
public import proofs.«01_k».proof.Proof.PromptReference
@[expose] public section
noncomputable section
namespace Cert.Prompt
open Idealize Idealize.ShloMosaic Idealize.ShloMosaic.TcCoe Idealize.SL.Sem
attribute [local instance] Cert.Kernel3Ideal.Gen.facts Cert.Reference3Ideal.Gen.facts
variable (m : (ℓ : Loc Kernel3Ideal.nD Kernel3Ideal.τ Kernel3Ideal.sig) → Buf (Elt Ideal) ℓ) (c : Dev Kernel3Ideal.nD)

/-- The reference's results on the kernel's arguments are the kernel's results. -/
theorem queries_same (x0 x1 x2) (h0 : x0 = m (c.tc.loc Cert.Kernel3Ideal.main_arg0)) (h1 : x1 = m (c.tc.loc Cert.Kernel3Ideal.main_arg1))
    (h2 : x2 = m (c.tc.loc Cert.Kernel3Ideal.main_arg2)) : Cert.Reference3Ideal.Read.val_main_v72 (F := Ideal) x0 x1 x2 = queriesOut m c := by
  subst h0 h1 h2
  funext i
  rw [show i = ix3 (i 0) (i 1) (i 2) from eq_ix3 i]
  exact Cert.Reference3Ideal.Read.queries_apply _ _ _ (i 0) (i 1) (i 2)

theorem keys_same (x0 x1 x2) (h0 : x0 = m (c.tc.loc Cert.Kernel3Ideal.main_arg0)) (h1 : x1 = m (c.tc.loc Cert.Kernel3Ideal.main_arg1))
    (h2 : x2 = m (c.tc.loc Cert.Kernel3Ideal.main_arg2)) : Cert.Reference3Ideal.Read.val_main_v73 (F := Ideal) x0 x1 x2 = after m c Cert.Kernel3Ideal.main_v81 := by
  subst h0 h1 h2
  funext i
  obtain ⟨s, h, d, rfl⟩ : ∃ (s : Fin 16384) (h : Fin 8) (d : Fin 64), i = ix5 0 0 s h d :=
    ⟨i 2, i 3, i 4, (eq_ix5 i).trans
      (congrArg₂ (fun a b : Fin 1 => ix5 a b (i 2 : Fin 16384) (i 3 : Fin 8) (i 4 : Fin 64)) (Fin.fin_one_eq_zero (i 0)) (Fin.fin_one_eq_zero (i 1)))⟩
  refine (Cert.Reference3Ideal.Read.keys_apply _ _ _ s h d).trans ((?_ : _ = _).trans (keysResult m c s h d).symm)
  unfold keysOut
  exact congrArg₂ (fun a b => Proj.head _ _ _ _ _ a b) (Fin.ext (show h.val = (h.val * 64 + d.val) / 64 by omega))
    (Fin.ext (show d.val = (h.val * 64 + d.val) % 64 by omega))

theorem values_same (x0 x1 x2) (h0 : x0 = m (c.tc.loc Cert.Kernel3Ideal.main_arg0)) (h1 : x1 = m (c.tc.loc Cert.Kernel3Ideal.main_arg1))
    (h2 : x2 = m (c.tc.loc Cert.Kernel3Ideal.main_arg2)) : Cert.Reference3Ideal.Read.val_main_v74 (F := Ideal) x0 x1 x2 = after m c Cert.Kernel3Ideal.main_v82 := by
  subst h0 h1 h2
  funext i
  obtain ⟨s, h, d, rfl⟩ : ∃ (s : Fin 16384) (h : Fin 8) (d : Fin 64), i = ix5 0 0 s h d :=
    ⟨i 2, i 3, i 4, (eq_ix5 i).trans
      (congrArg₂ (fun a b : Fin 1 => ix5 a b (i 2 : Fin 16384) (i 3 : Fin 8) (i 4 : Fin 64)) (Fin.fin_one_eq_zero (i 0)) (Fin.fin_one_eq_zero (i 1)))⟩
  exact (Cert.Reference3Ideal.Read.values_apply _ _ _ s h d).trans (valuesResult m c s h d).symm

theorem pool_same (x0 x1 x2) (h0 : x0 = m (c.tc.loc Cert.Kernel3Ideal.main_arg0)) (h1 : x1 = m (c.tc.loc Cert.Kernel3Ideal.main_arg1))
    (h2 : x2 = m (c.tc.loc Cert.Kernel3Ideal.main_arg2)) : Cert.Reference3Ideal.Read.val_main_v76 (F := Ideal) x0 x1 x2 = after m c Cert.Kernel3Ideal.main_v83 := by
  subst h0 h1 h2
  funext i
  obtain ⟨r, d, rfl⟩ : ∃ (r : Fin 15) (d : Fin 512), i = ix4 0 0 r d :=
    ⟨i 2, i 3, (eq_ix4 i).trans
      (congrArg₂ (fun a b : Fin 1 => ix4 a b (i 2 : Fin 15) (i 3 : Fin 512)) (Fin.fin_one_eq_zero (i 0)) (Fin.fin_one_eq_zero (i 1)))⟩
  refine (Cert.Reference3Ideal.Read.pool_apply _ _ _ r d).trans ((?_ : _ = _).trans (poolResult m c r d).symm)
  unfold tailOut
  exact congrArg (fun s => Proj.proj (row m c s) _ _ _) (Fin.ext (show 16369 + r.val = 16368 + (1 + r.val) by omega))

theorem algebraic : Cert.algebraic_Kernel3Ideal_Reference3Ideal := fun m g m' g' _ h =>
  ⟨fun c => queriesOut m c, fun c => after m c Cert.Kernel3Ideal.main_v81, fun c => after m c Cert.Kernel3Ideal.main_v82,
    fun c => after m c Cert.Kernel3Ideal.main_v83, run m g,
    (θ_run _ _ _).mono (fun _ hr c =>
      ⟨(hr c).1.trans ((Cert.Reference3Ideal.Read.val_main_v72_eq m' c).trans (queries_same m c _ _ _ (h c).1 (h c).2.1 (h c).2.2.1)),
       (hr c).2.1.trans ((Cert.Reference3Ideal.Read.val_main_v73_eq m' c).trans (keys_same m c _ _ _ (h c).1 (h c).2.1 (h c).2.2.1)),
       (hr c).2.2.1.trans (values_same m c _ _ _ (h c).1 (h c).2.1 (h c).2.2.1),
       (hr c).2.2.2.1.trans (pool_same m c _ _ _ (h c).1 (h c).2.1 (h c).2.2.1),
       (hr c).2.2.2.2⟩)
      (Cert.Reference3Ideal.Value.run m' g')⟩

end Cert.Prompt
-- ==== Proof.SampleHost.lean ====
/-
The blocks that the sample's projection reads, in terms of the program's arguments.
-/
module
public import proofs.«01_k».proof.Proof.Gen.Kernel4Ideal.Frame
public import proofs.«01_k».proof.Proof.ProjSpec
public import Idealize.ShloMosaic.Lib.Pipeline.ValueKit
public import Idealize.ShloMosaic.Lib.StableHlo.ReadAt
public import Idealize.ShloMosaic.Lib.Pointwise
@[expose] public section
noncomputable section
set_option maxRecDepth 16384
namespace Cert.Sample
open Idealize Idealize.ShloMosaic Idealize.ShloMosaic.TcCoe Idealize.SL.Sem Cert.Kernel4Ideal Cert.Kernel4Ideal.Gen Pipeline Proj
variable (m : (ℓ : Loc nD τ sig) → Buf (Elt Ideal) ℓ) (c : Dev nD)

/-- The position of row `r`: 8 tokens for each sequence, after 16384 that are past. -/
abbrev position (r : Fin 256) : BitVec 32 := 16384#32 + BitVec.ofNat 32 (r.val % 8)

/-- A gather of columns, whose index of a lane is a column's number, reads that column. -/
theorem gather_lane {α : Type} (x : S256x8.Idx → α) (idx : IVec S128x1 32) (r : Fin 256) (l : Fin 128) (f : Fin 8)
    (h : idx (ix2 l 0) = BitVec.ofNat 32 f.val) :
    Host.gather gather_S256x8_S128x1_S256x128_0_1_n_n_1_1_2561 x idx (ix2 r l) = x (ix2 r f) := by
  unfold Host.gather
  refine congrArg x (funext fun a => Fin.ext ?_)
  show gather_S256x8_S128x1_S256x128_0_1_n_n_1_1_2561.start (ix2 r l) idx a + gather_S256x8_S128x1_S256x128_0_1_n_n_1_1_2561.batchCoord (ix2 r l) a
      + gather_S256x8_S128x1_S256x128_0_1_n_n_1_1_2561.offCoord (ix2 r l) a = _
  rw [GatherDims.batchCoord_eq_zero _ _ _ List.not_mem_nil]
  unfold GatherDims.start
  match a with
  | ⟨0, _⟩ =>
    rw [dif_neg (show ¬ (⟨0, by decide⟩ : Fin 2) ∈ gather_S256x8_S128x1_S256x128_0_1_n_n_1_1_2561.startIndexMap by decide), Nat.zero_add]
    rfl
  | ⟨1, _⟩ =>
    rw [GatherDims.offCoord_eq_zero _ _ _ (fun h => ((GatherDims.mem_sKept _ _).mp h).1 (List.mem_singleton.mpr rfl)),
      dif_pos (show (⟨1, by decide⟩ : Fin 2) ∈ gather_S256x8_S128x1_S256x128_0_1_n_n_1_1_2561.startIndexMap from List.mem_singleton.mpr rfl),
      show gather_S256x8_S128x1_S256x128_0_1_n_n_1_1_2561.siIdx (ix2 r l) ⟨List.idxOf (⟨1, by decide⟩ : Fin 2) gather_S256x8_S128x1_S256x128_0_1_n_n_1_1_2561.startIndexMap,
        List.idxOf_lt_length_iff.2 (List.mem_singleton.mpr rfl)⟩ = ix2 l 0 by
          funext b; refine Fin.ext ?_
          match b with
          | ⟨0, _⟩ => rfl
          | ⟨1, _⟩ => rfl, h]
    show min (BitVec.ofNat 32 f.val).toInt.toNat 7 + 0 + 0 = f.val
    clear h
    revert f; decide

/-- A lane of a table: where the lane is chosen the entry of its column, else the filler. -/
theorem chosen (b : IVec S1x128 1) (x y : S256x128.Idx → EReal) (r : Fin 256) (l : Fin 128) (p : Prop) [Decidable p]
    (hb : b (ix2 0 l) = if p then 1#1 else 0#1) (v w : EReal) (hx : x (ix2 r l) = v) (hy : y (ix2 r l) = w) :
    select (broadcastInDim S256x128 ![0, 1] bcast_S1x128_S256x128_0_1 b) x y (ix2 r l) = if p then v else w := by
  subst hx hy
  have : select (broadcastInDim S256x128 ![0, 1] bcast_S1x128_S256x128_0_1 b) x y (ix2 r l) = Scalar.select (b (ix2 0 l)) (x (ix2 r l)) (y (ix2 r l)) := by
    pointwise
  rw [this, hb]
  by_cases h : p
  · rw [if_pos h, if_pos h]; rfl
  · rw [if_neg h, if_neg h]; rfl

/-- The three tables of factors at a row and a lane. -/
theorem cosTable (r : Fin 256) (l : Fin 128) : V m c main_v41 (ix2 r l) = cosLane (fun f => Ideal.cos (angle (position r) f)) l := by
  entry_read
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  simp -implicitDefEqProofs only [StableHlo.TRef.toBuf, StableHlo.TRef.ofBuf, cast_cast, cast_eq]
  clean_types
  refine chosen _ _ _ r l _ ?_ _ _ ((gather_lane _ _ r l ⟨l.val % 8, by omega⟩ ?_).trans ?_) (Ideal.ofBits_one_f32)
  · revert l
    decide +kernel
  · revert l
    decide +kernel
  · pointwise
    rfl

theorem lowTable (r : Fin 256) (l : Fin 128) : V m c main_v53 (ix2 r l) = sinLow (fun f => Ideal.sin (angle (position r) f)) l := by
  entry_read
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  simp -implicitDefEqProofs only [StableHlo.TRef.toBuf, StableHlo.TRef.ofBuf, cast_cast, cast_eq]
  clean_types
  refine chosen _ _ _ r l _ ?_ _ _ (congrArg (Neg.neg (α := EReal)) ((gather_lane _ _ r l ⟨l.val % 8, by omega⟩ ?_).trans ?_)) (Ideal.ofBits_zero_f32)
  · revert l
    decide +kernel
  · revert l
    decide +kernel
  · pointwise
    rfl

theorem highTable (r : Fin 256) (l : Fin 128) : V m c main_v68 (ix2 r l) = sinHigh (fun f => Ideal.sin (angle (position r) f)) l := by
  entry_read
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil, List.cons_append, List.nil_append]
  after_results
  simp -implicitDefEqProofs only [StableHlo.TRef.toBuf, StableHlo.TRef.ofBuf, cast_cast, cast_eq]
  clean_types
  refine chosen _ _ _ r l _ ?_ _ _ ((gather_lane _ _ r l ⟨l.val % 8, by omega⟩ ?_).trans ?_) (Ideal.ofBits_zero_f32)
  · revert l
    decide +kernel
  · revert l
    decide +kernel
  · pointwise
    rfl

/-- The entries of the blocks read by no table. -/
theorem entries :
    (∀ (r : Fin 256) (k : Fin 1024), V m c main_v73 (ix2 r k) = m (c.tc.loc main_arg0) (ix3 ⟨r.val / 8, by omega⟩ ⟨r.val % 8, by omega⟩ k)) ∧
    (∀ (k : Fin 1024), V m c main_v1 (ix2 0 k) = m (c.tc.loc main_arg2) (ix2 0 k)) ∧
    (∀ (k : Fin 1024) (j : Fin 2048), V m c main_v3 (ix2 k j) = m (c.tc.loc main_arg3) (ix3 0 k j)) ∧
    (∀ (b : Fin 32) (r : Fin 15) (d : Fin 512), V m c main_v71 (ix3 b r d) = m (c.tc.loc main_arg1) (ix4 0 b r d)) := by
  refine ⟨?_, ?_, ?_, ?_⟩
  all_goals
    intros
    entry_read
    simp only [hostOps0, hostOps0_1, hostOps0_2, hostOps0_3, hostOps0_4, hostOps0_5, hostOps0_6, hostOps0_7, hostOps0_8,
      hostOps0_9, hostOps0_10, hostOps0_11, hostOps0_12, List.flatten_cons, List.flatten_nil, List.append_nil, List.cons_append, List.nil_append]
    after_results
    all_goals try simp -implicitDefEqProofs only [StableHlo.TRef.toBuf, StableHlo.TRef.ofBuf, cast_cast, cast_eq]
  all_goals pointwise
  all_goals rfl
end Cert.Sample
-- ==== Proof.SampleBlock.lean ====
/-
The blocks that the one grid point of the sample's projection reads, and the four results that it leaves.
-/
module
public import proofs.«01_k».proof.Proof.SampleHost
@[expose] public section
noncomputable section
set_option maxRecDepth 16384
namespace Cert.Sample
open Idealize Idealize.ShloMosaic Idealize.ShloMosaic.TcCoe Idealize.SL.Sem Cert.Kernel4Ideal Cert.Kernel4Ideal.Gen Pipeline Proj
variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, 0] := by decide +kernel

variable (t : Fin cfg0.N)
theorem blk0 (r : Fin 256) (k : Fin 1024) : iblk m c 0 t (ix2 r k) = V m c main_v73 (ix2 r k) := by
  blk_ext [iblk, idx0 t]
theorem blk1 (k : Fin 1024) : iblk m c 1 t (ix2 0 k) = V m c main_v1 (ix2 0 k) := by
  blk_ext [iblk, idx1 t]
theorem blk2 (k : Fin 1024) (j : Fin 2048) : iblk m c 2 t (ix2 k j) = V m c main_v3 (ix2 k j) := by
  blk_ext [iblk, idx2 t]
theorem blk3 (r : Fin 256) (l : Fin 128) : iblk m c 3 t (ix2 r l) = V m c main_v41 (ix2 r l) := by
  blk_ext [iblk, idx3 t]
theorem blk4 (r : Fin 256) (l : Fin 128) : iblk m c 4 t (ix2 r l) = V m c main_v53 (ix2 r l) := by
  blk_ext [iblk, idx4 t]
theorem blk5 (r : Fin 256) (l : Fin 128) : iblk m c 5 t (ix2 r l) = V m c main_v68 (ix2 r l) := by
  blk_ext [iblk, idx5 t]

/-- A lane `l` of group `g` of the rotated heads that begin at column `o · 512` of the projection, from the lanes 8 before and 8 after it. -/
def lanes (z : Vec Ideal S256x2048 .f32) (C S2 S1 : Vec Ideal S256x128 .f32) (o : Fin 2) (r : Fin 256) (g : Fin 4) (l : Fin 128) : EReal :=
  z (ix2 r ⟨o.val * 512 + (g.val * 128 + l.val), by omega⟩) * C (ix2 r l)
    + z (ix2 r ⟨o.val * 512 + (g.val * 128 + (l.val + 128 - 8) % 128), by omega⟩) * S2 (ix2 r l)
    + z (ix2 r ⟨o.val * 512 + (g.val * 128 + (l.val + 128 - 120) % 128), by omega⟩) * S1 (ix2 r l)

/-- The keys, and the queries scaled by the literal 1/8. -/
def keyBlock (z : Vec Ideal S256x2048 .f32) (C S2 S1 : Vec Ideal S256x128 .f32) (y : S256x512.Idx) : EReal :=
  lanes z C S2 S1 1 (y 0) ⟨(y 1).val / 128, by have h : (y 1).val < 512 := (y 1).isLt; omega⟩ ⟨(y 1).val % 128, Nat.mod_lt _ (by norm_num)⟩
def queryBlock (z : Vec Ideal S256x2048 .f32) (C S2 S1 : Vec Ideal S256x128 .f32) (y : S256x512.Idx) : EReal :=
  lanes z C S2 S1 0 (y 0) ⟨(y 1).val / 128, by have h : (y 1).val < 512 := (y 1).isLt; omega⟩ ⟨(y 1).val % 128, Nat.mod_lt _ (by norm_num)⟩
    * Ideal.ofBits .f32 0x3E000000#32

section
variable {z : Vec Ideal S256x2048 .f32} {C S2 S1 : Vec Ideal S256x128 .f32} {n : ℕ} {L : List (View.Piece (Elt Ideal) S256x512 .f32)}

theorem lanes_at (o : Fin 2) (r r' : Fin 256) (g : Fin 4) (b l : Fin 128) (hn : n = g.val * 128) (hr : r' = r) (hl : l = b) :
    lanes z C S2 S1 o r' g l = z (ix2 r ⟨o.val * 512 + n + b.val, by omega⟩) * C (ix2 r b)
      + z (ix2 r ⟨o.val * 512 + n + (b.val + 128 - 8) % 128, by omega⟩) * S2 (ix2 r b)
      + z (ix2 r ⟨o.val * 512 + n + (b.val + 128 - 120) % 128, by omega⟩) * S1 (ix2 r b) := by
  subst hn hr hl
  unfold lanes
  simp only [Nat.add_assoc]

theorem keys_piece {inb} {w : S256x128.Idx → EReal} (hn : n % 128 = 0) (hb : n + 128 ≤ 512) (hw : ∀ (a : Fin 256) (b : Fin 128), w (ix2 a b) =
      z (ix2 a ⟨1 * 512 + n + b.val, by omega⟩) * C (ix2 a b) + z (ix2 a ⟨1 * 512 + n + (b.val + 128 - 8) % 128, by omega⟩) * S2 (ix2 a b)
        + z (ix2 a ⟨1 * 512 + n + (b.val + 128 - 120) % 128, by omega⟩) * S1 (ix2 a b))
    (hL : View.PiecesOf (keyBlock z C S2 S1) L) :
    View.PiecesOf (keyBlock z C S2 S1) (⟨Rect.unit (s := S256x512) ![0, n] ![256, 128] inb, w⟩ :: L) := by
  refine ⟨fun x => ?_, hL⟩
  obtain ⟨a, b, rfl⟩ : ∃ a b, x = (ix2 a b : S256x128.Idx) := ⟨x 0, x 1, by ext i; fin_cases i <;> rfl⟩
  exact (hw a b).trans (lanes_at 1 a _ ⟨(n + 1 * b.val) / 128, by omega⟩ b _ (by dsimp only; omega)
    (Fin.ext (by show 0 + 1 * a.val = _; omega)) (Fin.ext (by show (n + 1 * b.val) % 128 = _; omega))).symm

theorem queries_piece {inb} {w : S256x128.Idx → EReal} (hn : n % 128 = 0) (hb : n + 128 ≤ 512) (hw : ∀ (a : Fin 256) (b : Fin 128), w (ix2 a b) =
      (z (ix2 a ⟨0 * 512 + n + b.val, by omega⟩) * C (ix2 a b) + z (ix2 a ⟨0 * 512 + n + (b.val + 128 - 8) % 128, by omega⟩) * S2 (ix2 a b)
        + z (ix2 a ⟨0 * 512 + n + (b.val + 128 - 120) % 128, by omega⟩) * S1 (ix2 a b)) * Ideal.ofBits .f32 0x3E000000#32)
    (hL : View.PiecesOf (queryBlock z C S2 S1) L) :
    View.PiecesOf (queryBlock z C S2 S1) (⟨Rect.unit (s := S256x512) ![0, n] ![256, 128] inb, w⟩ :: L) := by
  refine ⟨fun x => ?_, hL⟩
  obtain ⟨a, b, rfl⟩ : ∃ a b, x = (ix2 a b : S256x128.Idx) := ⟨x 0, x 1, by ext i; fin_cases i <;> rfl⟩
  exact (hw a b).trans (congrArg (· * _) (lanes_at 0 a _ ⟨(n + 1 * b.val) / 128, by omega⟩ b _ (by dsimp only; omega)
    (Fin.ext (by show 0 + 1 * a.val = _; omega)) (Fin.ext (by show (n + 1 * b.val) % 128 = _; omega))).symm)
end

/-- The product of the normed rows with the columns of the weights. -/
theorem product (x : Vec Ideal S256x1024 .f32) (g : Vec Ideal S1x1024 .f32) (w : Vec Ideal S1024x2048 .bf16) (r : Fin 256) (j : Fin 2048) :
    k0_pay2 x g w (ix2 r j) = proj (fun k => x (ix2 r k)) (fun k => g (ix2 0 k)) (fun k j => w (ix2 k j)) j := by
  pointwise [k0_pay2]
  rfl

/-- What the point leaves in its keys. -/
theorem keys (y : S256x512.Idx) : (outsAt0 m c t).2.1 y =
    keyBlock (k0_pay2 (iblk m c 0 t) (iblk m c 1 t) (iblk m c 2 t)) (iblk m c 3 t) (iblk m c 5 t) (iblk m c 4 t) y := by
  unfold outsAt0
  frame_out
  simp only [(Memref.isWhole_whole _).read_unread]
  refine canon_of_piecesOf _ _ ?_ (View.cover_of_tiledBy _ ![256, 128] (by sl_kernel_rfl)) y
  generalize k0_pay2 (iblk m c 0 t) (iblk m c 1 t) (iblk m c 2 t) = z
  iterate 4
    refine keys_piece (by decide) (by decide) (fun a b => ?_) ?_
    rotate_left 1
  · exact trivial
  all_goals pointwise [k0_pay9, k0_pay10, k0_pay11, k0_pay12, k0_pay13, k0_pay14, k0_pay15, k0_pay16, k0_pay17, k0_pay18]

/-- What the point leaves in its queries. -/
theorem queries (y : S256x512.Idx) : (outsAt0 m c t).1 y =
    queryBlock (k0_pay2 (iblk m c 0 t) (iblk m c 1 t) (iblk m c 2 t)) (iblk m c 3 t) (iblk m c 5 t) (iblk m c 4 t) y := by
  unfold outsAt0
  frame_out
  simp only [(Memref.isWhole_whole _).read_unread]
  refine canon_of_piecesOf _ _ ?_ (View.cover_of_tiledBy _ ![256, 128] (by sl_kernel_rfl)) y
  iterate 4
    refine queries_piece (by decide) (by decide) (fun a b => ?_) ?_
    rotate_left 1
  · exact trivial
  all_goals
    try unfold k0_pay3
    try unfold k0_pay4
    generalize k0_pay2 (iblk m c 0 t) (iblk m c 1 t) (iblk m c 2 t) = z
    pointwise [k0_pay5, k0_pay6, k0_pay7, k0_pay8]

/-- What the point leaves in its values and its pooling rows. -/
theorem values (a : Fin 256) (b : Fin 512) : (outsAt0 m c t).2.2.1 (ix2 a b) =
    k0_pay2 (iblk m c 0 t) (iblk m c 1 t) (iblk m c 2 t) (ix2 a ⟨1024 + b.val, by omega⟩) := by
  unfold outsAt0
  frame_out
  simp only [(Memref.isWhole_whole _).read_unread]
  pointwise [k0_pay19]

theorem pools (a : Fin 256) (b : Fin 512) : (outsAt0 m c t).2.2.2.1 (ix2 a b) =
    k0_pay2 (iblk m c 0 t) (iblk m c 1 t) (iblk m c 2 t) (ix2 a ⟨1536 + b.val, by omega⟩) := by
  unfold outsAt0
  frame_out
  simp only [(Memref.isWhole_whole _).read_unread]
  pointwise [k0_pay20]
end Cert.Sample
-- ==== Proof.SampleValue.lean ====
/-
The arrays that the sample's projection leaves, from the program's arguments.
-/
module
public import proofs.«01_k».proof.Proof.SampleBlock
@[expose] public section
noncomputable section
set_option maxRecDepth 16384
namespace Cert.Sample
open Idealize Idealize.ShloMosaic Idealize.ShloMosaic.TcCoe Idealize.SL.Sem Cert.Kernel4Ideal Cert.Kernel4Ideal.Gen Pipeline Proj
variable (m : (ℓ : Loc nD τ sig) → Buf (Elt Ideal) ℓ) (c : Dev nD)

/-- Row `r` of the batch (token `r % 8` of sequence `r / 8`), the gain, and the weights, as they lie in the arguments. -/
abbrev row (r : Fin 256) (k : Fin 1024) : EReal := m (c.tc.loc main_arg0) (ix3 ⟨r.val / 8, by omega⟩ ⟨r.val % 8, by omega⟩ k)
abbrev gain (k : Fin 1024) : EReal := m (c.tc.loc main_arg2) (ix2 0 k)
abbrev weight (k : Fin 1024) (j : Fin 2048) : EReal := m (c.tc.loc main_arg3) (ix3 0 k j)

/-- An entry of the block's product is an entry of the projected row. -/
theorem entry (t : Fin cfg0.N) (r : Fin 256) (j : Fin 2048) :
    k0_pay2 (iblk m c 0 t) (iblk m c 1 t) (iblk m c 2 t) (ix2 r j) = proj (row m c r) (gain m c) (weight m c) j := by
  rw [product]
  simp only [blk0, blk1, blk2, (entries m c).1, (entries m c).2.1, (entries m c).2.2.1]

/-- A rotated lane is a rotated entry of its head. -/
theorem lanes_entry (t : Fin cfg0.N) (o : Fin 2) (r : Fin 256) (g : Fin 4) (l : Fin 128) :
    lanes (k0_pay2 (iblk m c 0 t) (iblk m c 1 t) (iblk m c 2 t)) (iblk m c 3 t) (iblk m c 5 t) (iblk m c 4 t) o r g l
      = head (row m c r) (gain m c) (weight m c) (position r) ⟨o.val, by omega⟩ ⟨g.val * 2 + l.val / 64, by omega⟩ ⟨l.val % 64, by omega⟩ := by
  refine Eq.trans ?_ (rolled (fun q : Fin 512 => proj (row m c r) (gain m c) (weight m c) ⟨o.val * 512 + q.val, by omega⟩)
    (fun f => Ideal.cos (angle (position r) f)) (fun f => Ideal.sin (angle (position r) f)) g l)
  unfold lanes
  simp only [entry, blk3, blk4, blk5]
  exact congrArg₂ (· + ·) (congrArg₂ (· + ·) (congrArg (_ * ·) (cosTable m c r l)) (congrArg (_ * ·) (highTable m c r l)))
    (congrArg (_ * ·) (lowTable m c r l))

theorem head_at (r : Fin 256) (o : Fin 4) {h h' : Fin 8} {d d' : Fin 64} (eh : h = h') (ed : d = d') :
    head (row m c r) (gain m c) (weight m c) (position r) o h d = head (row m c r) (gain m c) (weight m c) (position r) o h' d' := by
  subst eh ed
  rfl

theorem idx9 : ∀ t : Fin grid0.N, win0_9.index t = ![0, 0] := by decide +kernel
theorem idx10 : ∀ t : Fin grid0.N, win0_10.index t = ![0, 0] := by decide +kernel
theorem idx11 : ∀ t : Fin grid0.N, win0_11.index t = ![0, 0] := by decide +kernel
theorem idx12 : ∀ t : Fin grid0.N, win0_12.index t = ![0, 0] := by decide +kernel

/-- The keys, a row for each token. -/
def keysOut (i : S256x512.Idx) : EReal :=
  head (row m c (i 0)) (gain m c) (weight m c) (position (i 0)) 1 ⟨(i 1).val / 64, by have h : (i 1).val < 512 := (i 1).isLt; omega⟩
    ⟨(i 1).val % 64, Nat.mod_lt _ (by norm_num)⟩

/-- The scaled queries, a row for each token. -/
def queriesOut (i : S256x512.Idx) : EReal :=
  head (row m c (i 0)) (gain m c) (weight m c) (position (i 0)) 0 ⟨(i 1).val / 64, by have h : (i 1).val < 512 := (i 1).isLt; omega⟩
    ⟨(i 1).val % 64, Nat.mod_lt _ (by norm_num)⟩ * Ideal.ofBits .f32 0x3E000000#32

/-- The values and the pooling rows, a row for each token. -/
def valuesOut (i : S256x512.Idx) : EReal :=
  proj (row m c (i 0)) (gain m c) (weight m c) ⟨1024 + (i 1).val, by have h : (i 1).val < 512 := (i 1).isLt; omega⟩
def poolsOut (i : S256x512.Idx) : EReal :=
  proj (row m c (i 0)) (gain m c) (weight m c) ⟨1536 + (i 1).val, by have h : (i 1).val < 512 := (i 1).isLt; omega⟩

theorem queriesArr : (dats m 0 c).arrAt 9 cfg0.N = queriesOut m c := by
  refine (dats m 0 c).arrAt_eq_of_covers 9 _ (by decide +kernel) fun t hf y => ?_
  blk_simp
  rw [after0_9, queries]
  have e : (win0_9.blk t).view.emb y = ix2 (y 0) (y 1) := by blk_ext [idx9 t]
  rw [e]
  have h : (y 1).val < 512 := (y 1).isLt
  refine congrArg (· * _) ((lanes_entry m c t 0 (y 0) _ _).trans (head_at m c (y 0) 0 (Fin.ext ?_) (Fin.ext ?_)))
  · show (y 1).val / 128 * 2 + (y 1).val % 128 / 64 = (y 1).val / 64
    omega
  · show (y 1).val % 128 % 64 = (y 1).val % 64
    omega

theorem keysArr : (dats m 0 c).arrAt 10 cfg0.N = keysOut m c := by
  refine (dats m 0 c).arrAt_eq_of_covers 10 _ (by decide +kernel) fun t hf y => ?_
  blk_simp
  rw [after0_10, keys]
  have e : (win0_10.blk t).view.emb y = ix2 (y 0) (y 1) := by blk_ext [idx10 t]
  rw [e]
  have h : (y 1).val < 512 := (y 1).isLt
  refine (lanes_entry m c t 1 (y 0) _ _).trans (head_at m c (y 0) 1 (Fin.ext ?_) (Fin.ext ?_))
  · show (y 1).val / 128 * 2 + (y 1).val % 128 / 64 = (y 1).val / 64
    omega
  · show (y 1).val % 128 % 64 = (y 1).val % 64
    omega

theorem valuesArr : (dats m 0 c).arrAt 11 cfg0.N = valuesOut m c := by
  refine (dats m 0 c).arrAt_eq_of_covers 11 _ (by decide +kernel) fun t hf y => ?_
  blk_simp
  rw [after0_11]
  have e : (win0_11.blk t).view.emb y = ix2 (y 0) (y 1) := by blk_ext [idx11 t]
  have e' : y = ix2 (y 0) (y 1) := by blk_ext
  rw [e]
  exact (congrArg _ e').trans ((values m c t (y 0) (y 1)).trans (entry m c t (y 0) _))

theorem poolsArr : (dats m 0 c).arrAt 12 cfg0.N = poolsOut m c := by
  refine (dats m 0 c).arrAt_eq_of_covers 12 _ (by decide +kernel) fun t hf y => ?_
  blk_simp
  rw [after0_12]
  have e : (win0_12.blk t).view.emb y = ix2 (y 0) (y 1) := by blk_ext [idx12 t]
  have e' : y = ix2 (y 0) (y 1) := by blk_ext
  rw [e]
  exact (congrArg _ e').trans ((pools m c t (y 0) (y 1)).trans (entry m c t (y 0) _))
end Cert.Sample
-- ==== Proof.SampleRun.lean ====
/-
The run of the sample's projection: what its four results hold, entry by entry.
-/
module
public import proofs.«01_k».proof.Proof.SampleValue
@[expose] public section
noncomputable section
set_option maxRecDepth 16384
namespace Cert.Sample
open Idealize Idealize.ShloMosaic Idealize.ShloMosaic.TcCoe Idealize.SL.Sem Cert.Kernel4Ideal Cert.Kernel4Ideal.Gen Pipeline Proj
variable (m : (ℓ : Loc nD τ sig) → Buf (Elt Ideal) ℓ) (c : Dev nD)

/-- What the host operations after the call leave in a buffer. -/
abbrev after (b : Ref sig .tc) := Pipeline.afterTail₀ cfgs (dats m) 0 (V0 m) [hostOps1] c b

theorem keysResult (b : Fin 32) (s h : Fin 8) (d : Fin 64) :
    after m c main_v80 (ix5 0 b s h d) = keysOut m c (ix2 ⟨b.val * 8 + s.val, by omega⟩ ⟨h.val * 64 + d.val, by omega⟩) := by
  unfold after Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v74_1) = keysOut m c from
    (Pipeline.withArrays_arr spec0 winFacts0.arr_inj c _ _ 10).trans (keysArr m c)]
  pointwise

theorem valuesResult (b : Fin 32) (s h : Fin 8) (d : Fin 64) :
    after m c main_v81 (ix5 0 b s h d) = valuesOut m c (ix2 ⟨b.val * 8 + s.val, by omega⟩ ⟨h.val * 64 + d.val, by omega⟩) := by
  unfold after Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v74_2) = valuesOut m c from
    (Pipeline.withArrays_arr spec0 winFacts0.arr_inj c _ _ 11).trans (valuesArr m c)]
  pointwise

/-- The last 15 of the state's rows followed by the batch's. -/
theorem poolResult (b : Fin 32) (r : Fin 15) (d : Fin 512) :
    after m c main_v82 (ix4 0 b r d)
      = if h : 8 + r.val < 15 then V m c main_v71 (ix3 b ⟨8 + r.val, h⟩ d)
        else poolsOut m c (ix2 ⟨b.val * 8 + (8 + r.val - 15), by omega⟩ d) := by
  unfold after Pipeline.afterTail₀ hostOps1
  simp only [List.flatten_cons, List.flatten_nil, List.append_nil]
  after_results
  rw [show Pipeline.withArrays (cfgs 0).spec c (V0 m c) (fun w => (dats m 0 c).arrAt w (cfgs 0).N) (Proc.tc.devRef main_v74_3) = poolsOut m c from
    (Pipeline.withArrays_arr spec0 winFacts0.arr_inj c _ _ 12).trans (poolsArr m c),
    show Pipeline.withArrays (cfgs 0).spec c (V0 m c) (fun w => (dats m 0 c).arrAt w (cfgs 0).N) (Proc.tc.devRef main_v71) = V m c main_v71 from
    Pipeline.withArrays_of_ne spec0 c _ _ _ (by decide)]
  generalize V m c main_v71 = x
  pointwise

/-- The program runs, and its results are those arrays; the arguments stay. -/
theorem run (g : Dev nD → PrngReg) :
    θ_run defs (onTc (τ := τ) (main (F := Ideal))) ⟨m, fun _ => 0, g⟩ fun r => ∀ c : Dev nD,
      r.2.mem ((c.tc : Thread nD τ).loc main_v74_0) = queriesOut m c
      ∧ r.2.mem ((c.tc : Thread nD τ).loc main_v80) = after m c main_v80
      ∧ r.2.mem ((c.tc : Thread nD τ).loc main_v81) = after m c main_v81
      ∧ r.2.mem ((c.tc : Thread nD τ).loc main_v82) = after m c main_v82
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ?_) (Gen.run_main m g)
  have hb := fun b h₁ h₂ => (h c).2 b (Pipeline.mem_restRefs_of b h₁ h₂)
  exact ⟨((h c).1 9).trans (queriesArr m c), hb _ (by decide) (by decide), hb _ (by decide) (by decide), hb _ (by decide) (by decide),
    (hb _ (by decide) (by decide)).trans (W_main_arg0 m (dats m) c), (hb _ (by decide) (by decide)).trans (W_main_arg1 m (dats m) c),
    (hb _ (by decide) (by decide)).trans (W_main_arg2 m (dats m) c), (hb _ (by decide) (by decide)).trans (W_main_arg3 m (dats m) c),
    (hb _ (by decide) (by decide)).trans (W_main_arg4 m (dats m) c), (hb _ (by decide) (by decide)).trans (W_main_arg5 m (dats m) c)⟩

end Cert.Sample
-- ==== Proof.SampleReference.lean ====
/-
The sample's projection as the reference computes it, entry by entry.
-/
module
public import proofs.«01_k».proof.Proof.ProjSpec
public import proofs.«01_k».proof.Proof.Gen.Reference4Ideal.Read
public import Idealize.ShloMosaic.Lib.Pointwise
@[expose] public section
noncomputable section
set_option maxRecDepth 16384
namespace Cert.Reference4Ideal.Read
open Idealize Idealize.ShloMosaic Idealize.ShloMosaic.TcCoe Cert.Proj Cert.Reference4Ideal Cert.Reference4Ideal.Gen
variable (x0 : (⟨S32x8x1024, .f32⟩ : BufTy).Contents (Elt Ideal)) (x1 : (⟨S1x32x15x512, .f32⟩ : BufTy).Contents (Elt Ideal))
  (x2 : (⟨S1x1024, .f32⟩ : BufTy).Contents (Elt Ideal)) (x3 : (⟨S1x1024x2048, .f32⟩ : BufTy).Contents (Elt Ideal))

/-- The projected row `r` of the batch, and its rotated heads: row `r` is token `r % 8` of sequence `r / 8`. -/
abbrev projOf (r : Fin 256) : Fin 2048 → EReal :=
  proj (fun k => x0 (ix3 ⟨r.val / 8, by omega⟩ ⟨r.val % 8, by omega⟩ k)) (fun k => x2 (ix2 0 k)) (fun k j => x3 (ix3 0 k j))
abbrev headOf (r : Fin 256) : Fin 4 → Fin 8 → Fin 64 → EReal :=
  head (fun k => x0 (ix3 ⟨r.val / 8, by omega⟩ ⟨r.val % 8, by omega⟩ k)) (fun k => x2 (ix2 0 k)) (fun k j => x3 (ix3 0 k j))
    (16384#32 + BitVec.ofNat 32 (r.val % 8))

theorem norm_apply (r : Fin 256) (k : Fin 1024) :
    val_main_v21 x0 x2 (ix2 r k)
      = OutMlp.rmsNorm (fun k => x0 (ix3 ⟨r.val / 8, by omega⟩ ⟨r.val % 8, by omega⟩ k)) (fun k => x2 (ix2 0 k)) k := by
  unfold OutMlp.rmsNorm
  pointwise [val_main_v21, val_main_v20, val_main_v19, val_main_v18, val_main_v17, val_main_v16, val_main_v15, val_main_v14, val_main_v13, val_main_v12, val_main_v11, val_main_v10, val_main_v9, val_main_v7, val_main_v0, val_main_cst, val_main_cst_0, val_main_cst_1]

theorem proj_apply (r : Fin 256) (j : Fin 2048) : val_main_v22 x0 x2 x3 (ix2 r j) = projOf x0 x2 x3 r j := by
  unfold projOf proj
  pointwise [val_main_v22, val_main_v8]
  simp only [norm_apply]

theorem cos_apply (r : Fin 256) (f : Fin 8) :
    val_main_v35 (F := Ideal) (ix2 r f) = Ideal.cos (angle (16384#32 + BitVec.ofNat 32 (r.val % 8)) f) := by
  unfold angle
  pointwise [val_main_v35, val_main_v34, val_main_v33, val_main_v32, val_main_v31, val_main_v30, val_main_v29, val_main_v28, val_main_v27, val_main_v26, val_main_v25, val_main_v24, val_main_v23, val_main_v6, val_main_v5, val_main_v4, val_main_v3, val_main_v2, val_main_v1, val_main_c, val_main_cst_2, val_main_cst_3]
  rfl

theorem sin_apply (r : Fin 256) (f : Fin 8) :
    val_main_v37 (F := Ideal) (ix2 r f) = Ideal.sin (angle (16384#32 + BitVec.ofNat 32 (r.val % 8)) f) := by
  unfold angle
  pointwise [val_main_v37, val_main_v34, val_main_v33, val_main_v32, val_main_v31, val_main_v30, val_main_v29, val_main_v28, val_main_v27, val_main_v26, val_main_v25, val_main_v24, val_main_v23, val_main_v6, val_main_v5, val_main_v4, val_main_v3, val_main_v2, val_main_v1, val_main_c, val_main_cst_2, val_main_cst_3]
  rfl

theorem queries_head (r : Fin 256) (h : Fin 8) (d : Fin 64) : val_main_v58 x0 x2 x3 (ix3 r h d) = headOf x0 x2 x3 r 0 h d := by
  unfold headOf head
  rw [← rope_split]
  pointwise [val_main_v58, val_main_v57, val_main_v56, val_main_v55, val_main_v54, val_main_v53, val_main_v52, val_main_v51, val_main_v50, val_main_v49, val_main_v48, val_main_v47, val_main_v46, val_main_v45, val_main_v40, val_main_v39, val_main_v38, val_main_v36]
  simp only [proj_apply, cos_apply, sin_apply]

theorem keys_head (r : Fin 256) (h : Fin 8) (d : Fin 64) : val_main_v72 x0 x2 x3 (ix3 r h d) = headOf x0 x2 x3 r 1 h d := by
  unfold headOf head
  rw [← rope_split]
  pointwise [val_main_v72, val_main_v71, val_main_v70, val_main_v69, val_main_v68, val_main_v67, val_main_v66, val_main_v65, val_main_v64, val_main_v63, val_main_v62, val_main_v61, val_main_v60, val_main_v59, val_main_v42, val_main_v41, val_main_v38, val_main_v36]
  simp only [proj_apply, cos_apply, sin_apply]

theorem keys_apply (b : Fin 32) (s h : Fin 8) (d : Fin 64) :
    val_main_v74 x0 x2 x3 (ix5 0 b s h d) = headOf x0 x2 x3 ⟨b.val * 8 + s.val, by omega⟩ 1 h d := by
  rw [← keys_head]
  pointwise [val_main_v74]

theorem queries_apply (r : Fin 256) (j : Fin 512) :
    val_main_v81 x0 x2 x3 (ix2 r j)
      = headOf x0 x2 x3 r 0 ⟨j.val / 64, by omega⟩ ⟨j.val % 64, Nat.mod_lt _ (by norm_num)⟩ * Ideal.ofBits .f32 0x3E000000#32 := by
  rw [← queries_head]
  pointwise [val_main_v81, val_main_v80, val_main_v79, val_main_cst_4]

theorem values_apply (b : Fin 32) (s h : Fin 8) (d : Fin 64) :
    val_main_v75 x0 x2 x3 (ix5 0 b s h d) = projOf x0 x2 x3 ⟨b.val * 8 + s.val, by omega⟩ ⟨1024 + (h.val * 64 + d.val), by omega⟩ := by
  rw [← proj_apply]
  pointwise [val_main_v75, val_main_v44, val_main_v43]

/-- The last 15 rows of the state followed by the batch's pooling rows. -/
theorem pool_apply (b : Fin 32) (r : Fin 15) (d : Fin 512) :
    val_main_v83 x0 x1 x2 x3 (ix4 0 b r d)
      = if h : 8 + r.val < 15 then x1 (ix4 0 b ⟨8 + r.val, h⟩ d)
        else projOf x0 x2 x3 ⟨b.val * 8 + (8 + r.val - 15), by omega⟩ ⟨1536 + d.val, by omega⟩ := by
  simp only [← proj_apply]
  pointwise [val_main_v83, val_main_v82, val_main_v78, val_main_v77, val_main_v76, val_main_v73]

end Cert.Reference4Ideal.Read
-- ==== Proof.SampleClaim.lean ====
/-
The sample's projection: the kernel and the reference end with the same four results.
-/
module
public import proofs.«01_k».proof.Defs
public import proofs.«01_k».proof.Proof.SampleRun
public import proofs.«01_k».proof.Proof.SampleReference
@[expose] public section
noncomputable section
namespace Cert.Sample
open Idealize Idealize.ShloMosaic Idealize.ShloMosaic.TcCoe Idealize.SL.Sem
attribute [local instance] Cert.Kernel4Ideal.Gen.facts Cert.Reference4Ideal.Gen.facts
variable (m : (ℓ : Loc Kernel4Ideal.nD Kernel4Ideal.τ Kernel4Ideal.sig) → Buf (Elt Ideal) ℓ) (c : Dev Kernel4Ideal.nD)

/-- The reference's results on the kernel's arguments are the kernel's results. -/
theorem queries_same (x0 x2 x3) (h0 : x0 = m (c.tc.loc Cert.Kernel4Ideal.main_arg0)) (h2 : x2 = m (c.tc.loc Cert.Kernel4Ideal.main_arg2))
    (h3 : x3 = m (c.tc.loc Cert.Kernel4Ideal.main_arg3)) : Cert.Reference4Ideal.Read.val_main_v81 (F := Ideal) x0 x2 x3 = queriesOut m c := by
  subst h0 h2 h3
  funext i
  rw [show i = ix2 (i 0) (i 1) from eq_ix2 i]
  exact Cert.Reference4Ideal.Read.queries_apply _ _ _ (i 0) (i 1)

theorem keys_same (x0 x2 x3) (h0 : x0 = m (c.tc.loc Cert.Kernel4Ideal.main_arg0)) (h2 : x2 = m (c.tc.loc Cert.Kernel4Ideal.main_arg2))
    (h3 : x3 = m (c.tc.loc Cert.Kernel4Ideal.main_arg3)) : Cert.Reference4Ideal.Read.val_main_v74 (F := Ideal) x0 x2 x3 = after m c Cert.Kernel4Ideal.main_v80 := by
  subst h0 h2 h3
  funext i
  obtain ⟨b, s, h, d, rfl⟩ : ∃ (b : Fin 32) (s h : Fin 8) (d : Fin 64), i = ix5 0 b s h d :=
    ⟨i 1, i 2, i 3, i 4, (eq_ix5 i).trans
      (congrArg (fun a : Fin 1 => ix5 a (i 1 : Fin 32) (i 2 : Fin 8) (i 3 : Fin 8) (i 4 : Fin 64)) (Fin.fin_one_eq_zero (i 0)))⟩
  refine (Cert.Reference4Ideal.Read.keys_apply _ _ _ b s h d).trans ((?_ : _ = _).trans (keysResult m c b s h d).symm)
  unfold keysOut
  exact congrArg₂ (fun a b => Proj.head _ _ _ _ _ a b) (Fin.ext (show h.val = (h.val * 64 + d.val) / 64 by omega))
    (Fin.ext (show d.val = (h.val * 64 + d.val) % 64 by omega))

theorem values_same (x0 x2 x3) (h0 : x0 = m (c.tc.loc Cert.Kernel4Ideal.main_arg0)) (h2 : x2 = m (c.tc.loc Cert.Kernel4Ideal.main_arg2))
    (h3 : x3 = m (c.tc.loc Cert.Kernel4Ideal.main_arg3)) : Cert.Reference4Ideal.Read.val_main_v75 (F := Ideal) x0 x2 x3 = after m c Cert.Kernel4Ideal.main_v81 := by
  subst h0 h2 h3
  funext i
  obtain ⟨b, s, h, d, rfl⟩ : ∃ (b : Fin 32) (s h : Fin 8) (d : Fin 64), i = ix5 0 b s h d :=
    ⟨i 1, i 2, i 3, i 4, (eq_ix5 i).trans
      (congrArg (fun a : Fin 1 => ix5 a (i 1 : Fin 32) (i 2 : Fin 8) (i 3 : Fin 8) (i 4 : Fin 64)) (Fin.fin_one_eq_zero (i 0)))⟩
  exact (Cert.Reference4Ideal.Read.values_apply _ _ _ b s h d).trans (valuesResult m c b s h d).symm

theorem pool_same (x0 x1 x2 x3) (h0 : x0 = m (c.tc.loc Cert.Kernel4Ideal.main_arg0)) (h1 : x1 = m (c.tc.loc Cert.Kernel4Ideal.main_arg1))
    (h2 : x2 = m (c.tc.loc Cert.Kernel4Ideal.main_arg2)) (h3 : x3 = m (c.tc.loc Cert.Kernel4Ideal.main_arg3)) :
    Cert.Reference4Ideal.Read.val_main_v83 (F := Ideal) x0 x1 x2 x3 = after m c Cert.Kernel4Ideal.main_v82 := by
  subst h0 h1 h2 h3
  funext i
  obtain ⟨b, r, d, rfl⟩ : ∃ (b : Fin 32) (r : Fin 15) (d : Fin 512), i = ix4 0 b r d :=
    ⟨i 1, i 2, i 3, (eq_ix4 i).trans
      (congrArg (fun a : Fin 1 => ix4 a (i 1 : Fin 32) (i 2 : Fin 15) (i 3 : Fin 512)) (Fin.fin_one_eq_zero (i 0)))⟩
  refine (Cert.Reference4Ideal.Read.pool_apply _ _ _ _ b r d).trans ((?_ : _ = _).trans (poolResult m c b r d).symm)
  by_cases h : 8 + r.val < 15
  · rw [dif_pos h, dif_pos h]
    exact ((entries m c).2.2.2 b ⟨8 + r.val, h⟩ d).symm
  · rw [dif_neg h, dif_neg h]
    rfl

theorem algebraic : Cert.algebraic_Kernel4Ideal_Reference4Ideal := fun m g m' g' _ h =>
  ⟨fun c => queriesOut m c, fun c => after m c Cert.Kernel4Ideal.main_v80, fun c => after m c Cert.Kernel4Ideal.main_v81,
    fun c => after m c Cert.Kernel4Ideal.main_v82, run m g,
    (θ_run _ _ _).mono (fun _ hr c =>
      ⟨(hr c).1.trans ((Cert.Reference4Ideal.Read.val_main_v81_eq m' c).trans (queries_same m c _ _ _ (h c).1 (h c).2.2.1 (h c).2.2.2.1)),
       (hr c).2.1.trans ((Cert.Reference4Ideal.Read.val_main_v74_eq m' c).trans (keys_same m c _ _ _ (h c).1 (h c).2.2.1 (h c).2.2.2.1)),
       (hr c).2.2.1.trans (values_same m c _ _ _ (h c).1 (h c).2.2.1 (h c).2.2.2.1),
       (hr c).2.2.2.1.trans (pool_same m c _ _ _ _ (h c).1 (h c).2.1 (h c).2.2.1 (h c).2.2.2.1),
       (hr c).2.2.2.2⟩)
      (Cert.Reference4Ideal.Value.run m' g')⟩

end Cert.Sample
-- ==== Proof.SampleMlpBlock.lean ====
/-
  What one grid point of the call out_mlp leaves on the sample's 256 rows: its three scratch buffers and its output
  block, as the body's own values of the blocks it reads. The rows are one block, so the grid is four points.
-/
module

public import proofs.«01_k».proof.Proof.Gen.Kernel5Ideal.Value
public import Idealize.ShloMosaic.Lib.Tactic

@[expose] public section

noncomputable section

namespace Cert.Kernel5Ideal.Block

open Cert.Kernel5Ideal Cert.Kernel5Ideal.Gen Idealize.ShloMosaic Idealize.ShloMosaic.TcCoe Idealize.SL.Sem

variable {F : FTy → Type} [FloatOps F]
variable (m : (ℓ : Loc nD τ sig) → Buf (Elt F) ℓ)

theorem hz : (![0, 0] : Fin 2 → Nat) = fun _ => 0 := funext fun a => by fin_cases a <;> rfl

/-- A buffer filled with a vector reads back as it. -/
theorem read_sc0 (x : Vec F S256x1024 .f32) :
    View.read (Elt F) (View.whole cc0_scratch0) ((Memref.isWhole_whole cc0_scratch0).unread x) = x :=
  (Memref.isWhole_whole cc0_scratch0).read_unread x
theorem read_sc1 (x : Vec F S256x1024 .bf16) :
    View.read (Elt F) (View.whole cc0_scratch1) ((Memref.isWhole_whole cc0_scratch1).unread x) = x :=
  (Memref.isWhole_whole cc0_scratch1).read_unread x
theorem read_sc2 (x : Vec F S256x1024 .f32) :
    View.read (Elt F) (View.whole cc0_scratch2) ((Memref.isWhole_whole cc0_scratch2).unread x) = x :=
  (Memref.isWhole_whole cc0_scratch2).read_unread x

/-- The state of the four buffers: output block, residual stream, its normalized form, accumulator. -/
abbrev St : Type := Vec F S256x1024 .f32 × Vec F S256x1024 .f32 × Vec F S256x1024 .bf16 × Vec F S256x1024 .f32

/-- The last step over the hidden blocks writes the output block. -/
theorem C_out (c : Dev nD) (t : Fin cfg0.N) (h0 : ¬t.val % 4 = 0) (h1 : t.val % 4 = 3) (acc) :
    (Value.stAt0 m c t.val t.isLt acc).1
      = k0_pay3 acc.2.1 (k0_pay2 acc.2.2.1 (iblk m c 5 t) acc.2.2.2 (iblk m c 6 t)) (iblk m c 7 t) := by
  rw [Value.stAt0_C m c t acc h0 h1]
  dsimp only
  unfold out0_C_8
  rw [View.read_writes_eq_canon _ _ _ (fun y => cover0_C_8 ..)]
  unfold kernelRun0_C
  dsimp only
  sl_unfold_words
  simp only [View.canon_unit_zero (S := S256x1024) hz, View.readCov_unit_zero (S := S256x1024) _ hz,
    View.readAt_eq_ld, Memref.IsWhole.read_unread, View.ld_unit_zero (S := S256x1024) hz,
    View.ld_unit_zero (S := S1024x1024) hz, View.ld_unit_zero (S := S1x1024) hz]
  rw [read_sc0, read_sc1, read_sc2]

/-- A step in the middle adds its hidden block's part to the accumulator. -/
theorem B_acc (c : Dev nD) (t : Fin cfg0.N) (h0 : ¬t.val % 4 = 0) (h1 : ¬t.val % 4 = 3) (acc) :
    (Value.stAt0 m c t.val t.isLt acc).2 = (acc.2.1, acc.2.2.1,
      k0_pay2 acc.2.2.1 (iblk m c 5 t) acc.2.2.2 (iblk m c 6 t)) := by
  rw [Value.stAt0_B m c t acc h0 h1]
  dsimp only
  refine Prod.ext rfl (Prod.ext rfl ?_)
  dsimp only
  unfold sout0_B_2
  rw [View.read_writes_eq_canon _ _ _ (fun y => scover0_B_2 ..)]
  unfold kernelRun0_B
  dsimp only
  sl_unfold_words
  simp only [View.canon_unit_zero (S := S256x1024) hz, View.readAt_eq_ld, Memref.IsWhole.read_unread,
    View.ld_unit_zero (S := S256x1024) hz, View.ld_unit_zero (S := S1024x1024) hz]
  rw [read_sc1, read_sc2]

/-- The upper and the lower half of the output projection's weights. -/
abbrev woA (w : Vec F S1024x1024 .bf16) : Vec F S512x1024 .bf16 :=
  View.ld w (Rect.unit ![0, 0] ![512, 1024] inb_S1024x1024_S512x1024_0_0)
abbrev woB (w : Vec F S1024x1024 .bf16) : Vec F S512x1024 .bf16 :=
  View.ld w (Rect.unit ![512, 0] ![512, 1024] inb_S1024x1024_S512x1024_512_0)

/-- The first step's three buffers. -/
theorem A_x1 (c : Dev nD) (t : Fin cfg0.N) (h0 : t.val % 4 = 0) (h1 : ¬t.val % 4 = 3) (acc) :
    (Value.stAt0 m c t.val t.isLt acc).2.1
      = k0_pay5 (iblk m c 0 t) (iblk m c 1 t) (woA (iblk m c 3 t)) (iblk m c 2 t) (woB (iblk m c 3 t)) := by
  rw [Value.stAt0_A m c t acc h0 h1]
  dsimp only
  unfold sout0_A_0
  rw [View.read_writes_eq_canon _ _ _ (fun y => scover0_A_0 ..)]
  unfold kernelRun0_A
  dsimp only
  sl_unfold_words
  simp only [View.canon_cons_unit_zero (S := S256x1024) hz, View.canon_unit_zero (S := S256x1024) hz,
    View.readCov_unit_zero (S := S256x1024) _ hz, View.readAt_eq_ld, Memref.IsWhole.read_unread,
    View.ld_unit_zero (S := S256x1024) hz, View.ld_unit_zero (S := S1024x1024) hz,
    View.ld_unit_zero (S := S1x1024) hz, View.ld_unit_zero (S := S256x512) hz]

theorem A_hn (c : Dev nD) (t : Fin cfg0.N) (h0 : t.val % 4 = 0) (h1 : ¬t.val % 4 = 3) (acc) :
    (Value.stAt0 m c t.val t.isLt acc).2.2.1
      = k0_pay6 (iblk m c 0 t) (iblk m c 1 t) (woA (iblk m c 3 t)) (iblk m c 2 t) (woB (iblk m c 3 t))
          (iblk m c 4 t) := by
  rw [Value.stAt0_A m c t acc h0 h1]
  dsimp only
  unfold sout0_A_1
  rw [View.read_writes_eq_canon _ _ _ (fun y => scover0_A_1 ..)]
  unfold kernelRun0_A
  dsimp only
  sl_unfold_words
  simp only [View.canon_cons_unit_zero (S := S256x1024) hz, View.canon_unit_zero (S := S256x1024) hz,
    View.readCov_unit_zero (S := S256x1024) _ hz, View.readAt_eq_ld, Memref.IsWhole.read_unread,
    View.ld_unit_zero (S := S256x1024) hz, View.ld_unit_zero (S := S1024x1024) hz,
    View.ld_unit_zero (S := S1x1024) hz, View.ld_unit_zero (S := S256x512) hz]

theorem A_acc (c : Dev nD) (t : Fin cfg0.N) (h0 : t.val % 4 = 0) (h1 : ¬t.val % 4 = 3) (acc) :
    (Value.stAt0 m c t.val t.isLt acc).2.2.2
      = k0_pay2 (k0_pay6 (iblk m c 0 t) (iblk m c 1 t) (woA (iblk m c 3 t)) (iblk m c 2 t) (woB (iblk m c 3 t))
          (iblk m c 4 t)) (iblk m c 5 t) (k0_pay1 k0_pay7) (iblk m c 6 t) := by
  rw [Value.stAt0_A m c t acc h0 h1]
  dsimp only
  unfold sout0_A_2
  rw [View.read_writes_eq_canon _ _ _ (fun y => scover0_A_2 ..)]
  unfold kernelRun0_A
  dsimp only
  sl_unfold_words
  simp only [View.canon_cons_unit_zero (S := S256x1024) hz, View.canon_unit_zero (S := S256x1024) hz,
    View.readCov_unit_zero (S := S256x1024) _ hz, View.readAt_eq_ld, Memref.IsWhole.read_unread,
    View.ld_unit_zero (S := S256x1024) hz, View.ld_unit_zero (S := S1024x1024) hz,
    View.ld_unit_zero (S := S1x1024) hz, View.ld_unit_zero (S := S256x512) hz]

/-- The output block after the four points. -/
theorem out_eq (c : Dev nD) (hp : ∀ j : Fin 4, j.val < cfg0.N) :
    (outsAt0 m c 3 (hp 3)).1
      = k0_pay3
          (k0_pay5 (iblk m c 0 ⟨0, hp 0⟩) (iblk m c 1 ⟨0, hp 0⟩) (woA (iblk m c 3 ⟨0, hp 0⟩)) (iblk m c 2 ⟨0, hp 0⟩)
            (woB (iblk m c 3 ⟨0, hp 0⟩)))
          (let hn := k0_pay6 (iblk m c 0 ⟨0, hp 0⟩) (iblk m c 1 ⟨0, hp 0⟩) (woA (iblk m c 3 ⟨0, hp 0⟩))
            (iblk m c 2 ⟨0, hp 0⟩) (woB (iblk m c 3 ⟨0, hp 0⟩)) (iblk m c 4 ⟨0, hp 0⟩)
           k0_pay2 hn (iblk m c 5 ⟨3, hp 3⟩)
            (k0_pay2 hn (iblk m c 5 ⟨2, hp 2⟩)
              (k0_pay2 hn (iblk m c 5 ⟨1, hp 1⟩)
                (k0_pay2 hn (iblk m c 5 ⟨0, hp 0⟩) (k0_pay1 k0_pay7) (iblk m c 6 ⟨0, hp 0⟩))
                (iblk m c 6 ⟨1, hp 1⟩))
              (iblk m c 6 ⟨2, hp 2⟩))
            (iblk m c 6 ⟨3, hp 3⟩))
          (iblk m c 7 ⟨3, hp 3⟩) := by
  rw [Value.outsAt0_succ, Value.outsAt0_succ, Value.outsAt0_succ, Value.outsAt0_zero,
    C_out m c ⟨3, hp 3⟩ (by simp) (by simp), B_acc m c ⟨2, hp 2⟩ (by simp) (by simp),
    B_acc m c ⟨1, hp 1⟩ (by simp) (by simp), A_acc m c ⟨0, hp 0⟩ (by simp) (by simp),
    A_hn m c ⟨0, hp 0⟩ (by simp) (by simp), A_x1 m c ⟨0, hp 0⟩ (by simp) (by simp)]

end Cert.Kernel5Ideal.Block
-- ==== Proof.SampleMlpPoint.lean ====
/-
The output layer's kernel on the sample at one entry: what each step's arithmetic is at a row and a column.
-/
module
public import proofs.«01_k».proof.Proof.SampleMlpBlock
public import proofs.«01_k».proof.Proof.MlpSpec
public import Idealize.ShloMosaic.Lib.Pointwise
public import Idealize.ShloMosaic.Lib.Pipeline.ValueKit
@[expose] public section
noncomputable section
set_option maxRecDepth 16384
namespace Cert.Kernel5Ideal.Block
open Cert.Kernel5Ideal Cert.Kernel5Ideal.Gen Idealize.ShloMosaic Idealize.ShloMosaic.TcCoe Idealize.SL.Sem
open Cert.OutMlp

theorem pay5_apply (x a wo p) (r : Fin 256) (d : Fin 1024) :
    k0_pay5 (F := Ideal) x a (woA wo) p (woB wo) (ix2 r d)
      = resid (fun d => x (ix2 r d)) (fun k => a (ix2 r k)) (fun k => p (ix2 r k)) (fun k d => wo (ix2 k d)) d := by
  unfold resid
  pointwise [k0_pay5, k0_pay4, woA, woB]

theorem pay6_apply (x a wo p g) (r : Fin 256) (d : Fin 1024) :
    k0_pay6 (F := Ideal) x a (woA wo) p (woB wo) g (ix2 r d)
      = rmsNorm (resid (fun d => x (ix2 r d)) (fun k => a (ix2 r k)) (fun k => p (ix2 r k)) (fun k d => wo (ix2 k d)))
          (fun d => g (ix2 0 d)) d := by
  unfold rmsNorm resid
  pointwise [k0_pay6, k0_pay5, k0_pay4, woA, woB]

theorem pay2_apply (hn u a w) (r : Fin 256) (d : Fin 1024) :
    k0_pay2 (F := Ideal) hn u a w (ix2 r d)
      = a (ix2 r d) + ∑ f : Fin 1024, hid (fun k => hn (ix2 r k)) (fun k => u (ix2 k f))
          * hid (fun k => hn (ix2 r k)) (fun k => u (ix2 k f)) * w (ix2 f d) := by
  unfold hid
  pointwise [k0_pay2]

theorem pay3_apply (x a g) (r : Fin 256) (d : Fin 1024) :
    k0_pay3 (F := Ideal) x a g (ix2 r d)
      = rmsNorm (fun d => x (ix2 r d) + a (ix2 r d)) (fun d => g (ix2 0 d)) d := by
  unfold rmsNorm
  pointwise [k0_pay3]

theorem pay1_apply (r : Fin 256) (d : Fin 1024) : k0_pay1 (F := Ideal) k0_pay7 (ix2 r d) = 0 := by
  pointwise [k0_pay1, k0_pay7]

end Cert.Kernel5Ideal.Block
-- ==== Proof.SampleMlpValue.lean ====
/-
The output layer's result array on the sample: entry by entry the specification's layer on that token of the arguments.
-/
module
public import proofs.«01_k».proof.Proof.SampleMlpPoint
@[expose] public section
noncomputable section
set_option maxRecDepth 16384
namespace Cert.Kernel5Ideal.Block
open Cert.Kernel5Ideal Cert.Kernel5Ideal.Gen Idealize.ShloMosaic Idealize.ShloMosaic.TcCoe Idealize.SL.Sem
open Cert.OutMlp
variable (m : (ℓ : Loc nD τ sig) → Buf (Elt Ideal) ℓ) (c : Dev nD)

theorem idx0 : ∀ t : Fin grid0.N, win0_0.index t = ![0, 0] := by decide +kernel
theorem idx1 : ∀ t : Fin grid0.N, win0_1.index t = ![0, 0] := by decide +kernel
theorem idx2 : ∀ t : Fin grid0.N, win0_2.index t = ![0, 0] := by decide +kernel
theorem idx3 : ∀ t : Fin grid0.N, win0_3.index t = ![0, 0] := by decide +kernel
theorem idx4 : ∀ t : Fin grid0.N, win0_4.index t = ![0, 0] := by decide +kernel
theorem idx5 : ∀ t : Fin grid0.N, win0_5.index t = ![0, t.val % 4] := by decide +kernel
theorem idx6 : ∀ t : Fin grid0.N, win0_6.index t = ![t.val % 4, 0] := by decide +kernel
theorem idx7 : ∀ t : Fin grid0.N, win0_7.index t = ![0, 0] := by decide +kernel

/-- Row `r` of the 256 is token `r % 8` of sequence `r / 8`. -/
theorem read0 (t : Fin cfg0.N) (r : Fin 256) (d : Fin 1024) :
    (iblk m c 0 t (ix2 r d) : EReal)
      = m ((c.tc : Thread nD τ).loc main_arg0) (ix3 (⟨r.val / 8, by omega⟩ : Fin 32) (⟨r.val % 8, by omega⟩ : Fin 8) d) := by
  blk_ext! [iblk, V, idx0 t]
theorem read1 (t : Fin cfg0.N) (r : Fin 256) (k : Fin 512) :
    (iblk m c 1 t (ix2 r k) : EReal)
      = m ((c.tc : Thread nD τ).loc main_arg1) (ix3 (⟨r.val / 8, by omega⟩ : Fin 32) (⟨r.val % 8, by omega⟩ : Fin 8) k) := by
  blk_ext! [iblk, V, idx1 t]
theorem read2 (t : Fin cfg0.N) (r : Fin 256) (k : Fin 512) :
    (iblk m c 2 t (ix2 r k) : EReal) = m ((c.tc : Thread nD τ).loc main_arg2) (ix2 r k) := by
  blk_ext! [iblk, V, idx2 t]
theorem read3 (t : Fin cfg0.N) (k : Fin 1024) (d : Fin 1024) :
    (iblk m c 3 t (ix2 k d) : EReal) = m ((c.tc : Thread nD τ).loc main_arg3) (ix3 0 k d) := by
  blk_ext! [iblk, V, idx3 t]
theorem read4 (t : Fin cfg0.N) (d : Fin 1024) :
    (iblk m c 4 t (ix2 0 d) : EReal) = m ((c.tc : Thread nD τ).loc main_arg4) (ix2 0 d) := by
  blk_ext! [iblk, V, idx4 t]
theorem read5 (t : Fin cfg0.N) (k : Fin 1024) (f : Fin 1024) (f' : Fin 4096) (h : f'.val = t.val % 4 * 1024 + f.val) :
    (iblk m c 5 t (ix2 k f) : EReal) = m ((c.tc : Thread nD τ).loc main_arg5) (ix3 0 k f') := by
  blk_ext! [iblk, V, idx5 t]
theorem read6 (t : Fin cfg0.N) (f : Fin 1024) (d : Fin 1024) (f' : Fin 4096) (h : f'.val = t.val % 4 * 1024 + f.val) :
    (iblk m c 6 t (ix2 f d) : EReal) = m ((c.tc : Thread nD τ).loc main_arg6) (ix3 0 f' d) := by
  blk_ext! [iblk, V, idx6 t]
theorem read7 (t : Fin cfg0.N) (d : Fin 1024) :
    (iblk m c 7 t (ix2 0 d) : EReal) = m ((c.tc : Thread nD τ).loc main_arg7) (ix1 d) := by
  blk_ext! [iblk, V, idx7 t]

/-- The specification's layer on row `r` of the arguments. -/
def layerOf (r : Fin 256) : Fin 1024 → EReal :=
  layer (fun d => m ((c.tc : Thread nD τ).loc main_arg0) (ix3 (⟨r.val / 8, by omega⟩ : Fin 32) (⟨r.val % 8, by omega⟩ : Fin 8) d))
    (fun k => m ((c.tc : Thread nD τ).loc main_arg1) (ix3 (⟨r.val / 8, by omega⟩ : Fin 32) (⟨r.val % 8, by omega⟩ : Fin 8) k))
    (fun k => m ((c.tc : Thread nD τ).loc main_arg2) (ix2 r k)) (fun k d => m ((c.tc : Thread nD τ).loc main_arg3) (ix3 0 k d))
    (fun d => m ((c.tc : Thread nD τ).loc main_arg4) (ix2 0 d)) (fun k f => m ((c.tc : Thread nD τ).loc main_arg5) (ix3 0 k f))
    (fun f d => m ((c.tc : Thread nD τ).loc main_arg6) (ix3 0 f d)) (fun d => m ((c.tc : Thread nD τ).loc main_arg7) (ix1 d))

/-- The output block after the last point, entry by entry. -/
theorem block_apply (hp : ∀ j : Fin 4, j.val < cfg0.N) (r : Fin 256) (d : Fin 1024) :
    ((outsAt0 m c 3 (hp 3)).1 (ix2 r d) : EReal) = layerOf m c r d := by
  rw [out_eq m c hp]
  dsimp only
  rw [pay3_apply]
  unfold layerOf layer
  simp only [pay2_apply, pay6_apply, pay5_apply, pay1_apply, read0, read1, read2, read3, read4, read7]
  congr 1
  funext d
  congr 1
  rw [← sum_quarters]
  refine congrArg₂ _ (congrArg₂ _ (congrArg₂ _ (congrArg₂ _ rfl ?_) ?_) ?_) ?_ <;>
    refine Finset.sum_congr rfl fun f _ => ?_
  · simp only [read5 m c ⟨0, hp 0⟩ _ f ⟨f.val, by omega⟩ (by simp),
      read6 m c ⟨0, hp 0⟩ f d ⟨f.val, by omega⟩ (by simp)]
  · simp only [read5 m c ⟨1, hp 1⟩ _ f ⟨1024 + f.val, by omega⟩ (by dsimp only),
      read6 m c ⟨1, hp 1⟩ f d ⟨1024 + f.val, by omega⟩ (by dsimp only)]
  · simp only [read5 m c ⟨2, hp 2⟩ _ f ⟨2048 + f.val, by omega⟩ (by dsimp only),
      read6 m c ⟨2, hp 2⟩ f d ⟨2048 + f.val, by omega⟩ (by dsimp only)]
  · simp only [read5 m c ⟨3, hp 3⟩ _ f ⟨3072 + f.val, by omega⟩ (by dsimp only),
      read6 m c ⟨3, hp 3⟩ f d ⟨3072 + f.val, by omega⟩ (by dsimp only)]

/-- The result array, entry by entry: it is written once, after the last point. -/
theorem result_apply (r : Fin 256) (d : Fin 1024) : (Value.G8 m c (ix2 r d) : EReal) = layerOf m c r d := by
  have hN : cfg0.N = 4 := N_0
  rw [Value.G8_last m c, ← Value.outsAt0_sweep m c _ (by omega)]
  exact block_apply m c (fun j => by omega) r d

end Cert.Kernel5Ideal.Block
-- ==== Proof.SampleMlpReference.lean ====
/-
The output layer's reference on the sample at one entry: the specification's layer on that token of the arguments.
-/
module
public import proofs.«01_k».proof.Proof.MlpSpec
public import proofs.«01_k».proof.Proof.Gen.Reference5Ideal.Read
public import Idealize.ShloMosaic.Lib.Pointwise
@[expose] public section
noncomputable section
set_option maxRecDepth 16384
namespace Cert.Reference5Ideal.Read
open Idealize Idealize.ShloMosaic Idealize.ShloMosaic.TcCoe Cert.OutMlp Cert.Reference5Ideal Cert.Reference5Ideal.Gen
variable (x0 : (⟨S32x8x1024, .f32⟩ : BufTy).Contents (Elt Ideal)) (x1 : (⟨S32x8x512, .f32⟩ : BufTy).Contents (Elt Ideal))
  (x2 : (⟨S256x512, .bf16⟩ : BufTy).Contents (Elt Ideal)) (x3 : (⟨S1x1024x1024, .f32⟩ : BufTy).Contents (Elt Ideal))
  (x4 : (⟨S1x1024, .f32⟩ : BufTy).Contents (Elt Ideal))
  (x5 : (⟨S1x1024x4096, .f32⟩ : BufTy).Contents (Elt Ideal)) (x6 : (⟨S1x4096x1024, .f32⟩ : BufTy).Contents (Elt Ideal)) (x7 : (⟨S1024, .f32⟩ : BufTy).Contents (Elt Ideal))

/-- The row of the residual stream after the output projection. -/
def residOf (r : Fin 256) : Fin 1024 → EReal :=
  resid (fun d => x0 (ix3 (⟨r.val / 8, by omega⟩ : Fin 32) (⟨r.val % 8, by omega⟩ : Fin 8) d))
    (fun k => x1 (ix3 (⟨r.val / 8, by omega⟩ : Fin 32) (⟨r.val % 8, by omega⟩ : Fin 8) k))
    (fun k => x2 (ix2 r k)) (fun k d => x3 (ix3 0 k d))

theorem resid_apply (r : Fin 256) (d : Fin 1024) : val_main_v6 x0 x1 x2 x3 (ix2 r d) = residOf x0 x1 x2 x3 r d := by
  unfold residOf resid
  rw [add_assoc]
  pointwise [val_main_v6, val_main_v0, val_main_v5, val_main_v4, val_main_v3, val_main_v2, val_main_v1]

theorem hn_apply (r : Fin 256) (d : Fin 1024) :
    val_main_v20 x0 x1 x2 x3 x4 (ix2 r d) = rmsNorm (residOf x0 x1 x2 x3 r) (fun d => x4 (ix2 0 d)) d := by
  unfold rmsNorm
  pointwise [val_main_v20, val_main_v19, val_main_v18, val_main_v17, val_main_v16, val_main_v15, val_main_v14,
    val_main_v13, val_main_v12, val_main_v11, val_main_v10, val_main_v9, val_main_v8, val_main_v7, val_main_cst,
    val_main_cst_0, val_main_cst_1]
  simp only [resid_apply]

theorem hid_apply (r : Fin 256) (f : Fin 4096) :
    val_main_v23 x0 x1 x2 x3 x4 x5 (ix2 r f)
      = hid (rmsNorm (residOf x0 x1 x2 x3 r) (fun d => x4 (ix2 0 d))) (fun k => x5 (ix3 0 k f)) := by
  unfold hid
  pointwise [val_main_v23, val_main_v22, val_main_v21, val_main_call0_v0, val_main_call0_cst]
  simp only [hn_apply]

theorem sum_apply (r : Fin 256) (d : Fin 1024) :
    val_main_v27 x0 x1 x2 x3 x4 x5 x6 (ix2 r d)
      = residOf x0 x1 x2 x3 r d + ∑ f : Fin 4096,
          hid (rmsNorm (residOf x0 x1 x2 x3 r) (fun d => x4 (ix2 0 d))) (fun k => x5 (ix3 0 k f))
          * hid (rmsNorm (residOf x0 x1 x2 x3 r) (fun d => x4 (ix2 0 d))) (fun k => x5 (ix3 0 k f))
          * x6 (ix3 0 f d) := by
  pointwise [val_main_v27, val_main_v26, val_main_v25, val_main_v24]
  simp only [hid_apply, resid_apply]

/-- The reference's result, entry by entry. -/
theorem out_apply (r : Fin 256) (d : Fin 1024) :
    val_main_v40 x0 x1 x2 x3 x4 x5 x6 x7 (ix2 r d)
      = layer (fun d => x0 (ix3 (⟨r.val / 8, by omega⟩ : Fin 32) (⟨r.val % 8, by omega⟩ : Fin 8) d))
    (fun k => x1 (ix3 (⟨r.val / 8, by omega⟩ : Fin 32) (⟨r.val % 8, by omega⟩ : Fin 8) k))
    (fun k => x2 (ix2 r k)) (fun k d => x3 (ix3 0 k d))
          (fun d => x4 (ix2 0 d)) (fun k f => x5 (ix3 0 k f)) (fun f d => x6 (ix3 0 f d)) (fun d => x7 (ix1 d)) d := by
  unfold layer rmsNorm
  pointwise [val_main_v40, val_main_v39, val_main_v38, val_main_v37, val_main_v36, val_main_v35, val_main_v34,
    val_main_v33, val_main_v32, val_main_v31, val_main_v30, val_main_v29, val_main_v28, val_main_cst_2,
    val_main_cst_3, val_main_cst_4]
  simp only [sum_apply]
  rfl

end Cert.Reference5Ideal.Read
-- ==== Proof.SampleMlpClaim.lean ====
/-
The output layer's equation on the sample: from memories that agree on the arguments the kernel and the reference end
with the same result array, the specification's layer on every token.
-/
module
public import proofs.«01_k».proof.Defs
public import proofs.«01_k».proof.Proof.SampleMlpValue
public import proofs.«01_k».proof.Proof.SampleMlpReference
@[expose] public section
noncomputable section
namespace Cert.OutMlpSample
open Idealize Idealize.ShloMosaic Idealize.ShloMosaic.TcCoe Idealize.SL.Sem
attribute [local instance] Cert.Kernel5Ideal.Gen.facts Cert.Reference5Ideal.Gen.facts

theorem reference_result (m : (ℓ : Loc Kernel5Ideal.nD Kernel5Ideal.τ Kernel5Ideal.sig) → Buf (Elt Ideal) ℓ)
    (m' : (ℓ : Loc Reference5Ideal.nD Reference5Ideal.τ Reference5Ideal.sig) → Buf (Elt Ideal) ℓ)
    (c : Dev Kernel5Ideal.nD)
    (h : m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)) :
    Cert.Reference5Ideal.Value.res_main_v40 m' c = Cert.Kernel5Ideal.Value.G8 m c := by
  obtain ⟨h0, h1, h2, h3, h4, h5, h6, h7⟩ := h
  rw [Cert.Reference5Ideal.Read.val_main_v40_eq, h0, h1, h2, h3, h4, h5, h6, h7]
  funext i
  rw [show i = ix2 (i 0) (i 1) from eq_ix2 i]
  exact (Cert.Reference5Ideal.Read.out_apply _ _ _ _ _ _ _ _ (i 0) (i 1)).trans
    (Cert.Kernel5Ideal.Block.result_apply m c (i 0) (i 1)).symm

theorem algebraic : Cert.algebraic_Kernel5Ideal_Reference5Ideal := fun m g m' g' _ h =>
  ⟨fun c => Cert.Kernel5Ideal.Value.G8 m c, Cert.Kernel5Ideal.Value.run m g,
    (θ_run _ _ _).mono (fun _ hr c => ⟨(hr c).1.trans (reference_result m m' c (h c)), (hr c).2⟩)
      (Cert.Reference5Ideal.Value.run m' g')⟩

end Cert.OutMlpSample
-- ==== Proof.lean ====
/-
The certificate: the frames of the five programs and their references, the substitutions of constants, and the equations
of the output layer (on the prompt and on the sample) and of the two projections, put together from the modules under Proof/.
-/
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Reference3Ideal
public import proofs.«01_k».proof.Proof.Gen.Reference3Ideal.Run
public import proofs.«01_k».proof.Proof.Gen.Reference3Ideal.Read
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.MlpClaim
public import proofs.«01_k».proof.Proof.PromptClaim
public import proofs.«01_k».proof.Proof.SampleClaim
public import proofs.«01_k».proof.Proof.SampleMlpClaim
public import Idealize.ShloMosaic.Adequacy
public import Idealize.ShloMosaic.Init

@[expose] public section

noncomputable section

namespace Cert.Proof

open Idealize.ShloMosaic Idealize.SL.Sem Cert.Kernel

/-- The attention reference's frame: it writes no argument and has no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The output layer's reference's frame: it writes no argument and has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- The prompt projection's reference's frame: it writes no argument and has no semaphore. -/
theorem frame_reference3 : Cert.quiescent_Reference3Ideal := fun m ρ _ =>
  (θ_run Cert.Reference3Ideal.defs _ _).mono (fun r h => ⟨fun c => (h c).2.2.2.2, sem_eq_zero_of_no_sems (by decide) r.2⟩)
    (Cert.Reference3Ideal.Value.run (F := Ideal) m ρ)

/-- The sample projection's reference's frame: it writes no argument and has no semaphore. -/
theorem frame_reference4 : Cert.quiescent_Reference4Ideal := fun m ρ _ =>
  (θ_run Cert.Reference4Ideal.defs _ _).mono (fun r h => ⟨fun c => (h c).2.2.2.2, sem_eq_zero_of_no_sems (by decide) r.2⟩)
    (Cert.Reference4Ideal.Value.run (F := Ideal) m ρ)

/-- The frame of the output layer's reference on the sample: it writes no argument and has no semaphore. -/
theorem frame_reference5 : Cert.quiescent_Reference5Ideal := fun m ρ _ =>
  (θ_run Cert.Reference5Ideal.defs _ _).mono (fun r h => ⟨fun c => (h c).2, sem_eq_zero_of_no_sems (by decide) r.2⟩)
    (Cert.Reference5Ideal.Value.run (F := Ideal) m ρ)

/-- The certificate's claims together. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  fun m ρ _ => Cert.Kernel.Gen.frame m ρ, fun m ρ _ => Cert.KernelIdeal.Gen.frame m ρ, frame_reference,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, frame_reference5,
  IdealRules.named_const.statement Cert.KernelIdeal.κ "mask" .f32 0xF149F2CA#32 ⊥ rfl, trivial,
  Cert.OutMlp.algebraic, trivial, Cert.Prompt.algebraic, trivial, Cert.Sample.algebraic,
  trivial, Cert.OutMlpSample.algebraic⟩

end Cert.Proof

end
